-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "inv_n" .f32 0x39C30C31#32 ((1 / 2688 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v413) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x256x32x32 : Shape := ⟨4, ![128, 256, 32, 32]⟩
abbrev S128x21x3 : Shape := ⟨3, ![128, 21, 3]⟩
abbrev S128x21x2 : Shape := ⟨3, ![128, 21, 2]⟩
abbrev S128x64 : Shape := ⟨2, ![128, 64]⟩
abbrev S128x1x3 : Shape := ⟨3, ![128, 1, 3]⟩
abbrev S128x256 : Shape := ⟨2, ![128, 256]⟩
abbrev S128 : Shape := ⟨1, ![128]⟩
abbrev S128x128 : Shape := ⟨2, ![128, 128]⟩
abbrev S_ : Shape := ⟨0, ![]⟩
abbrev S128x21x1 : Shape := ⟨3, ![128, 21, 1]⟩

class Facts : Prop where
  bcast_S_S128x256x32x32 : S_.BroadcastsInDim S128x256x32x32 (![] : Fin 0 → Fin S128x256x32x32.rank)
  reducesTo_S128x256x32x32_S_d0_1_2_3 : S128x256x32x32.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S128x21x2_S128x21x1_0_0_1 : S128x21x2.Slices ![0, 0, 1] S128x21x1
  bcast_S_S128x21x1 : S_.BroadcastsInDim S128x21x1 (![] : Fin 0 → Fin S128x21x1.rank)
  reducesTo_S128x21x1_S_d0_1_2 : S128x21x1.ReducesTo [0, 1, 2] S_

variable [Facts]

def fn_part1 {F : FTy → Type} [FloatOps F] (main_arg3 : FVec F S128x21x2 .f32) (main_arg4 : FVec F S128x21x2 .f32) (main_arg15 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg15
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x21x1 .f32 := (extractStridedSlice S128x21x1 ![0, 0, 1] · slices_S128x21x2_S128x21x1_0_0_1) main_arg3
  let main_cst_8 : FVec F S_ .f32 := constant S_ .f32 0x00000000#32
  let main_v25 : FVec F S128x21x1 .f32 := broadcastInDim S128x21x1 ![] bcast_S_S128x21x1 main_cst_8
  let main_v26 : IVec S128x21x1 1 := cmpf .oge main_v24 main_v25
  let main_c_9 : IVec S_ 1 := constantI S_ 1 1#1
  let main_v27 : IVec S_ 1 := (fun x v => Host.reduce IntOp.andi x v reducesTo_S128x21x1_S_d0_1_2 h_S_) main_v26 main_c_9
  let main_v28 : IVec S_ 1 := andi main_v23 main_v27
  let main_v29 : FVec F S128x21x1 .f32 := (extractStridedSlice S128x21x1 ![0, 0, 1] · slices_S128x21x2_S128x21x1_0_0_1) main_arg4
  let main_cst_10 : FVec F S_ .f32 := constant S_ .f32 0x00000000#32
  let main_v30 : FVec F S128x21x1 .f32 := broadcastInDim S128x21x1 ![] bcast_S_S128x21x1 main_cst_10
  let main_v31 : IVec S128x21x1 1 := cmpf .oge main_v29 main_v30
  let main_c_11 : IVec S_ 1 := constantI S_ 1 1#1
  let main_v32 : IVec S_ 1 := (fun x v => Host.reduce IntOp.andi x v reducesTo_S128x21x1_S_d0_1_2 h_S_) main_v31 main_c_11
  let main_v33 : IVec S_ 1 := andi main_v28 main_v32
  main_v33

def fn {F : FTy → Type} [FloatOps F] (main_arg0 : FVec F S128x256x32x32 .f32) (main_arg1 : FVec F S128x21x3 .f32) (main_arg2 : FVec F S128x21x3 .f32) (main_arg3 : FVec F S128x21x2 .f32) (main_arg4 : FVec F S128x21x2 .f32) (main_arg5 : FVec F S128x64 .f32) (main_arg6 : FVec F S128x64 .f32) (main_arg7 : FVec F S128x1x3 .f32) (main_arg8 : FVec F S128x256 .f32) (main_arg9 : FVec F S128 .f32) (main_arg10 : FVec F S128 .f32) (main_arg11 : FVec F S128 .f32) (main_arg12 : FVec F S128x128 .f32) (main_arg13 : FVec F S128 .f32) (main_arg14 : FVec F S128x256 .f32) (main_arg15 : FVec F S128 .f32) (main_arg16 : FVec F S128 .f32) (main_arg17 : FVec F S128 .f32) (main_arg18 : FVec F S128x128 .f32) (main_arg19 : FVec F S128 .f32) : IVec S_ 1 :=
  let main_v0 : FVec F S128x256x32x32 .f32 := Host.absf main_arg0
  let main_cst : FVec F S_ .f32 := constant S_ .f32 0x7F800000#32
  let main_v1 : FVec F S128x256x32x32 .f32 := broadcastInDim S128x256x32x32 ![] bcast_S_S128x256x32x32 main_cst
  let main_v2 : IVec S128x256x32x32 1 := cmpf .olt main_v0 main_v1
  let main_c : IVec S_ 1 := constantI S_ 1 1#1
  let main_v3 : IVec S_ 1 := (fun x v => Host.reduce IntOp.andi x v reducesTo_S128x256x32x32_S_d0_1_2_3 h_S_) main_v2 main_c
  let main_v4 : FVec F S128x256 .f32 := Host.absf main_arg8
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg9
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg14
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg3 main_arg4 main_arg15 main_v13 main_v16
-- ==== Kernel.lean ====
abbrev S128x256x32x32 : Shape := ⟨4, ![128, 256, 32, 32]⟩
abbrev S128x21x3 : Shape := ⟨3, ![128, 21, 3]⟩
abbrev S128x21x2 : Shape := ⟨3, ![128, 21, 2]⟩
abbrev S128x64 : Shape := ⟨2, ![128, 64]⟩
abbrev S128x1x3 : Shape := ⟨3, ![128, 1, 3]⟩
abbrev S128x256 : Shape := ⟨2, ![128, 256]⟩
abbrev S128 : Shape := ⟨1, ![128]⟩
abbrev S128x128 : Shape := ⟨2, ![128, 128]⟩
abbrev S_ : Shape := ⟨0, ![]⟩
abbrev S128x32x2 : Shape := ⟨3, ![128, 32, 2]⟩
abbrev S128x64x2 : Shape := ⟨3, ![128, 64, 2]⟩
abbrev S128x2x64 : Shape := ⟨3, ![128, 2, 64]⟩
abbrev S128x256x1024 : Shape := ⟨3, ![128, 256, 1024]⟩
abbrev S256x256 : Shape := ⟨2, ![256, 256]⟩
abbrev S2x128x32x256 : Shape := ⟨4, ![2, 128, 32, 256]⟩
abbrev S16x2x64 : Shape := ⟨3, ![16, 2, 64]⟩
abbrev S16x256x512 : Shape := ⟨3, ![16, 256, 512]⟩
abbrev S16x256x128 : Shape := ⟨3, ![16, 256, 128]⟩
abbrev S2x16x32x256 : Shape := ⟨4, ![2, 16, 32, 256]⟩
abbrev S1x2x64 : Shape := ⟨3, ![1, 2, 64]⟩
abbrev S2x64 : Shape := ⟨2, ![2, 64]⟩
abbrev S1x64 : Shape := ⟨2, ![1, 64]⟩
abbrev S32x64 : Shape := ⟨2, ![32, 64]⟩
abbrev S16x64 : Shape := ⟨2, ![16, 64]⟩
abbrev S16x1x64 : Shape := ⟨3, ![16, 1, 64]⟩
abbrev S1x32x64 : Shape := ⟨3, ![1, 32, 64]⟩
abbrev S16x32x64 : Shape := ⟨3, ![16, 32, 64]⟩
abbrev S512x64 : Shape := ⟨2, ![512, 64]⟩
abbrev S4x64 : Shape := ⟨2, ![4, 64]⟩
abbrev S4x1x64 : Shape := ⟨3, ![4, 1, 64]⟩
abbrev S4x32x64 : Shape := ⟨3, ![4, 32, 64]⟩
abbrev S1x256x512 : Shape := ⟨3, ![1, 256, 512]⟩
abbrev S256x512 : Shape := ⟨2, ![256, 512]⟩
abbrev S256x64 : Shape := ⟨2, ![256, 64]⟩
abbrev S1x256x128 : Shape := ⟨3, ![1, 256, 128]⟩
abbrev S256x128 : Shape := ⟨2, ![256, 128]⟩
abbrev S64x256 : Shape := ⟨2, ![64, 256]⟩
abbrev S32x256 : Shape := ⟨2, ![32, 256]⟩
abbrev S1x1x32x256 : Shape := ⟨4, ![1, 1, 32, 256]⟩
abbrev S1x128x256 : Shape := ⟨3, ![1, 128, 256]⟩
abbrev S2x128x256 : Shape := ⟨3, ![2, 128, 256]⟩
abbrev S1x128 : Shape := ⟨2, ![1, 128]⟩
abbrev S2x128 : Shape := ⟨2, ![2, 128]⟩
abbrev S2x1x128 : Shape := ⟨3, ![2, 1, 128]⟩
abbrev S1x128x128 : Shape := ⟨3, ![1, 128, 128]⟩
abbrev S2x128x128 : Shape := ⟨3, ![2, 128, 128]⟩
abbrev S2x4096x256 : Shape := ⟨3, ![2, 4096, 256]⟩
abbrev S2x4096x128 : Shape := ⟨3, ![2, 4096, 128]⟩
abbrev S1x4096x256 : Shape := ⟨3, ![1, 4096, 256]⟩
abbrev S1x1x128 : Shape := ⟨3, ![1, 1, 128]⟩
abbrev S1x4096x128 : Shape := ⟨3, ![1, 4096, 128]⟩
abbrev S4096x256 : Shape := ⟨2, ![4096, 256]⟩
abbrev S4096x128 : Shape := ⟨2, ![4096, 128]⟩
abbrev S4096x1 : Shape := ⟨2, ![4096, 1]⟩
abbrev S2x128x32x128 : Shape := ⟨4, ![2, 128, 32, 128]⟩
abbrev S2x128x21x128 : Shape := ⟨4, ![2, 128, 21, 128]⟩
abbrev S1x128x21x128 : Shape := ⟨4, ![1, 128, 21, 128]⟩
abbrev S128x21x128 : Shape := ⟨3, ![128, 21, 128]⟩

abbrev nBuf : Space → Nat
  | .hbm => 67
  | .vmem => 25
  | .smem => 0
  | _ => 0

abbrev bufTy : (tb : Table) → Fin (tcTables nBuf tb) → BufTy
  | .hbm, ⟨0, _⟩ => ⟨S128x256x32x32, .f32⟩
  | .hbm, ⟨1, _⟩ => ⟨S128x21x3, .f32⟩
  | .hbm, ⟨2, _⟩ => ⟨S128x21x3, .f32⟩
  | .hbm, ⟨3, _⟩ => ⟨S128x21x2, .f32⟩
  | .hbm, ⟨4, _⟩ => ⟨S128x21x2, .f32⟩
  | .hbm, ⟨5, _⟩ => ⟨S128x64, .f32⟩
  | .hbm, ⟨6, _⟩ => ⟨S128x64, .f32⟩
  | .hbm, ⟨7, _⟩ => ⟨S128x1x3, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x256, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S_, .i32⟩
  | .hbm, ⟨21, _⟩ => ⟨S_, .f32⟩
  | .hbm, ⟨22, _⟩ => ⟨S128x32x2, .f32⟩
  | .hbm, ⟨23, _⟩ => ⟨S_, .i32⟩
  | .hbm, ⟨24, _⟩ => ⟨S_, .f32⟩
  | .hbm, ⟨25, _⟩ => ⟨S128x32x2, .f32⟩
  | .hbm, ⟨26, _⟩ => ⟨S128x64x2, .f32⟩
  | .hbm, ⟨27, _⟩ => ⟨S128x2x64, .f32⟩
  | .hbm, ⟨28, _⟩ => ⟨S128x256x1024, .f32⟩
  | .hbm, ⟨29, _⟩ => ⟨S256x256, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S256x256, .i1⟩
  | .hbm, ⟨35, _⟩ => ⟨S256x256, .f32⟩
  | .hbm, ⟨36, _⟩ => ⟨S2x128x32x256, .f32⟩
  | .hbm, ⟨37, _⟩ => ⟨S1x128x256, .f32⟩
  | .hbm, ⟨38, _⟩ => ⟨S1x128x256, .f32⟩
  | .hbm, ⟨39, _⟩ => ⟨S2x128x256, .f32⟩
  | .hbm, ⟨40, _⟩ => ⟨S1x128, .f32⟩
  | .hbm, ⟨41, _⟩ => ⟨S1x128, .f32⟩
  | .hbm, ⟨42, _⟩ => ⟨S2x128, .f32⟩
  | .hbm, ⟨43, _⟩ => ⟨S2x1x128, .f32⟩
  | .hbm, ⟨44, _⟩ => ⟨S1x128, .f32⟩
  | .hbm, ⟨45, _⟩ => ⟨S1x128, .f32⟩
  | .hbm, ⟨46, _⟩ => ⟨S2x128, .f32⟩
  | .hbm, ⟨47, _⟩ => ⟨S2x1x128, .f32⟩
  | .hbm, ⟨48, _⟩ => ⟨S1x128, .f32⟩
  | .hbm, ⟨49, _⟩ => ⟨S1x128, .f32⟩
  | .hbm, ⟨50, _⟩ => ⟨S2x128, .f32⟩
  | .hbm, ⟨51, _⟩ => ⟨S2x1x128, .f32⟩
  | .hbm, ⟨52, _⟩ => ⟨S1x128x128, .f32⟩
  | .hbm, ⟨53, _⟩ => ⟨S1x128x128, .f32⟩
  | .hbm, ⟨54, _⟩ => ⟨S2x128x128, .f32⟩
  | .hbm, ⟨55, _⟩ => ⟨S1x128, .f32⟩
  | .hbm, ⟨56, _⟩ => ⟨S1x128, .f32⟩
  | .hbm, ⟨57, _⟩ => ⟨S2x128, .f32⟩
  | .hbm, ⟨58, _⟩ => ⟨S2x1x128, .f32⟩
  | .hbm, ⟨59, _⟩ => ⟨S2x4096x256, .f32⟩
  | .hbm, ⟨60, _⟩ => ⟨S2x4096x128, .f32⟩
  | .hbm, ⟨61, _⟩ => ⟨S2x128x32x128, .f32⟩
  | .hbm, ⟨62, _⟩ => ⟨S2x128x21x128, .f32⟩
  | .hbm, ⟨63, _⟩ => ⟨S1x128x21x128, .f32⟩
  | .hbm, ⟨64, _⟩ => ⟨S128x21x128, .f32⟩
  | .hbm, ⟨65, _⟩ => ⟨S1x128x21x128, .f32⟩
  | .hbm, ⟨66, _⟩ => ⟨S128x21x128, .f32⟩
  | .local _ .vmem, ⟨0, _⟩ => ⟨S16x2x64, .f32⟩
  | .local _ .vmem, ⟨1, _⟩ => ⟨S16x2x64, .f32⟩
  | .local _ .vmem, ⟨2, _⟩ => ⟨S16x256x512, .f32⟩
  | .local _ .vmem, ⟨3, _⟩ => ⟨S16x256x512, .f32⟩
  | .local _ .vmem, ⟨4, _⟩ => ⟨S16x256x128, .f32⟩
  | .local _ .vmem, ⟨5, _⟩ => ⟨S16x256x128, .f32⟩
  | .local _ .vmem, ⟨6, _⟩ => ⟨S256x256, .f32⟩
  | .local _ .vmem, ⟨7, _⟩ => ⟨S2x16x32x256, .f32⟩
  | .local _ .vmem, ⟨8, _⟩ => ⟨S2x16x32x256, .f32⟩
  | .local _ .vmem, ⟨9, _⟩ => ⟨S1x4096x256, .f32⟩
  | .local _ .vmem, ⟨10, _⟩ => ⟨S1x4096x256, .f32⟩
  | .local _ .vmem, ⟨11, _⟩ => ⟨S1x128x256, .f32⟩
  | .local _ .vmem, ⟨12, _⟩ => ⟨S1x128x256, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x128x128, .f32⟩
  | .local _ .vmem, ⟨20, _⟩ => ⟨S1x128x128, .f32⟩
  | .local _ .vmem, ⟨21, _⟩ => ⟨S1x1x128, .f32⟩
  | .local _ .vmem, ⟨22, _⟩ => ⟨S1x1x128, .f32⟩
  | .local _ .vmem, ⟨23, _⟩ => ⟨S1x4096x128, .f32⟩
  | .local _ .vmem, ⟨24, _⟩ => ⟨S1x4096x128, .f32⟩
  | _, _ => ⟨S128x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_call0_v0 : Ref sig .tc := ⟨.hbm, 21, rfl⟩
abbrev main_v0 : Ref sig .tc := ⟨.hbm, 22, rfl⟩
abbrev main_c_0 : Ref sig .tc := ⟨.hbm, 23, rfl⟩
abbrev main_call1_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x2x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x16x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "inv_n" => some ((1 / 2688 : ℝ) : EReal)
  | _ => none
-- ==== ReferenceIdeal.lean ====
abbrev S128x256x32x32 : Shape := ⟨4, ![128, 256, 32, 32]⟩
abbrev S128x21x3 : Shape := ⟨3, ![128, 21, 3]⟩
abbrev S128x21x2 : Shape := ⟨3, ![128, 21, 2]⟩
abbrev S128x64 : Shape := ⟨2, ![128, 64]⟩
abbrev S128x1x3 : Shape := ⟨3, ![128, 1, 3]⟩
abbrev S128x256 : Shape := ⟨2, ![128, 256]⟩
abbrev S128 : Shape := ⟨1, ![128]⟩
abbrev S128x128 : Shape := ⟨2, ![128, 128]⟩
abbrev S128x1x21x2 : Shape := ⟨4, ![128, 1, 21, 2]⟩
abbrev S128x1x21x1 : Shape := ⟨4, ![128, 1, 21, 1]⟩
abbrev S128x1x21 : Shape := ⟨3, ![128, 1, 21]⟩
abbrev S_ : Shape := ⟨0, ![]⟩
abbrev S128x256x1024 : Shape := ⟨3, ![128, 256, 1024]⟩
abbrev S128x21 : Shape := ⟨2, ![128, 21]⟩
abbrev S128x21x1 : Shape := ⟨3, ![128, 21, 1]⟩
abbrev S128x256x21 : Shape := ⟨3, ![128, 256, 21]⟩
abbrev S128x256x1x21 : Shape := ⟨4, ![128, 256, 1, 21]⟩
abbrev S128x1x1x21 : Shape := ⟨4, ![128, 1, 1, 21]⟩
abbrev S128x21x128 : Shape := ⟨3, ![128, 21, 128]⟩
abbrev S128x128x21 : Shape := ⟨3, ![128, 128, 21]⟩
abbrev S1x128x1 : Shape := ⟨3, ![1, 128, 1]⟩
abbrev S128x2688 : Shape := ⟨2, ![128, 2688]⟩

abbrev nBuf : Space → Nat
  | .hbm => 678
  | .vmem => 0
  | .smem => 0
  | _ => 0

abbrev hbmTy0_0 (i : Nat) : BufTy := match i % 128 with
  | 0 => ⟨S128x256x32x32, .f32⟩
  | 1 => ⟨S128x21x3, .f32⟩
  | 2 => ⟨S128x21x3, .f32⟩
  | 3 => ⟨S128x21x2, .f32⟩
  | 4 => ⟨S128x21x2, .f32⟩
  | 5 => ⟨S128x64, .f32⟩
  | 6 => ⟨S128x64, .f32⟩
  | 7 => ⟨S128x1x3, .f32⟩
  | 8 => ⟨S128x256, .f32⟩
  | 9 => ⟨S128, .f32⟩
  | 10 => ⟨S128, .f32⟩
  | 11 => ⟨S128, .f32⟩
  | 12 => ⟨S128x128, .f32⟩
  | 13 => ⟨S128, .f32⟩
  | 14 => ⟨S128x256, .f32⟩
  | 15 => ⟨S128, .f32⟩
  | 16 => ⟨S128, .f32⟩
  | 17 => ⟨S128, .f32⟩
  | 18 => ⟨S128x128, .f32⟩
  | 19 => ⟨S128, .f32⟩
  | 20 => ⟨S128x1x21x2, .f32⟩
  | 21 => ⟨S128x1x21x1, .f32⟩
  | 22 => ⟨S128x1x21, .f32⟩
  | 23 => ⟨S_, .f32⟩
  | 24 => ⟨S128x1x21, .f32⟩
  | 25 => ⟨S128x1x21, .f32⟩
  | 26 => ⟨S_, .f32⟩
  | 27 => ⟨S128x1x21, .f32⟩
  | 28 => ⟨S128x1x21, .f32⟩
  | 29 => ⟨S_, .f32⟩
  | 30 => ⟨S128x1x21, .f32⟩
  | 31 => ⟨S128x1x21, .f32⟩
  | 32 => ⟨S_, .f32⟩
  | 33 => ⟨S128x1x21, .f32⟩
  | 34 => ⟨S128x1x21, .f32⟩
  | 35 => ⟨S128x1x21x1, .f32⟩
  | 36 => ⟨S128x1x21, .f32⟩
  | 37 => ⟨S_, .f32⟩
  | 38 => ⟨S128x1x21, .f32⟩
  | 39 => ⟨S128x1x21, .f32⟩
  | 40 => ⟨S_, .f32⟩
  | 41 => ⟨S128x1x21, .f32⟩
  | 42 => ⟨S128x1x21, .f32⟩
  | 43 => ⟨S_, .f32⟩
  | 44 => ⟨S128x1x21, .f32⟩
  | 45 => ⟨S128x1x21, .f32⟩
  | 46 => ⟨S_, .f32⟩
  | 47 => ⟨S128x1x21, .f32⟩
  | 48 => ⟨S128x1x21, .f32⟩
  | 49 => ⟨S128x1x21, .f32⟩
  | 50 => ⟨S128x1x21, .f32⟩
  | 51 => ⟨S_, .f32⟩
  | 52 => ⟨S128x1x21, .f32⟩
  | 53 => ⟨S128x1x21, .f32⟩
  | 54 => ⟨S_, .f32⟩
  | 55 => ⟨S128x1x21, .f32⟩
  | 56 => ⟨S128x1x21, .f32⟩
  | 57 => ⟨S128x1x21, .f32⟩
  | 58 => ⟨S128x1x21, .f32⟩
  | 59 => ⟨S128x1x21, .f32⟩
  | 60 => ⟨S128x1x21, .f32⟩
  | 61 => ⟨S128x1x21, .f32⟩
  | 62 => ⟨S128x1x21, .f32⟩
  | 63 => ⟨S128x1x21, .f32⟩
  | 64 => ⟨S128x1x21, .f32⟩
  | 65 => ⟨S128x1x21, .f32⟩
  | 66 => ⟨S128x1x21, .f32⟩
  | 67 => ⟨S128x1x21, .f32⟩
  | 68 => ⟨S128x1x21, .f32⟩
  | 69 => ⟨S_, .f32⟩
  | 70 => ⟨S128x1x21, .f32⟩
  | 71 => ⟨S128x1x21, .i1⟩
  | 72 => ⟨S_, .f32⟩
  | 73 => ⟨S128x1x21, .f32⟩
  | 74 => ⟨S128x1x21, .i1⟩
  | 75 => ⟨S128x1x21, .i1⟩
  | 76 => ⟨S_, .f32⟩
  | 77 => ⟨S128x1x21, .f32⟩
  | 78 => ⟨S128x1x21, .i1⟩
  | 79 => ⟨S128x1x21, .i1⟩
  | 80 => ⟨S_, .f32⟩
  | 81 => ⟨S128x1x21, .f32⟩
  | 82 => ⟨S128x1x21, .i1⟩
  | 83 => ⟨S128x1x21, .i1⟩
  | 84 => ⟨S128x1x21, .f32⟩
  | 85 => ⟨S_, .i32⟩
  | 86 => ⟨S_, .i32⟩
  | 87 => ⟨S_, .f32⟩
  | 88 => ⟨S128x1x21, .f32⟩
  | 89 => ⟨S128x1x21, .f32⟩
  | 90 => ⟨S_, .f32⟩
  | 91 => ⟨S128x1x21, .f32⟩
  | 92 => ⟨S128x1x21, .f32⟩
  | 93 => ⟨S128x1x21, .i32⟩
  | 94 => ⟨S_, .i32⟩
  | 95 => ⟨S_, .i32⟩
  | 96 => ⟨S_, .f32⟩
  | 97 => ⟨S128x1x21, .f32⟩
  | 98 => ⟨S128x1x21, .f32⟩
  | 99 => ⟨S_, .f32⟩
  | 100 => ⟨S128x1x21, .f32⟩
  | 101 => ⟨S128x1x21, .f32⟩
  | 102 => ⟨S128x1x21, .i32⟩
  | 103 => ⟨S128x256x1024, .f32⟩
  | 104 => ⟨S_, .i32⟩
  | 105 => ⟨S128x1x21, .i32⟩
  | 106 => ⟨S128x1x21, .i32⟩
  | 107 => ⟨S128x1x21, .i32⟩
  | 108 => ⟨S128x21, .i32⟩
  | 109 => ⟨S_, .i32⟩
  | 110 => ⟨S128x21, .i32⟩
  | 111 => ⟨S128x21, .i1⟩
  | 112 => ⟨S_, .i32⟩
  | 113 => ⟨S128x21, .i32⟩
  | 114 => ⟨S128x21, .i32⟩
  | 115 => ⟨S128x21, .i32⟩
  | 116 => ⟨S128x21x1, .i32⟩
  | 117 => ⟨S128x256x21, .f32⟩
  | 118 => ⟨S128x256x1x21, .f32⟩
  | 119 => ⟨S128x1x21, .f32⟩
  | 120 => ⟨S128x1x1x21, .f32⟩
  | 121 => ⟨S128x256x1x21, .f32⟩
  | 122 => ⟨S128x256x1x21, .f32⟩
  | 123 => ⟨S_, .f32⟩
  | 124 => ⟨S128x1x21, .f32⟩
  | 125 => ⟨S128x1x21, .i1⟩
  | 126 => ⟨S_, .f32⟩
  | 127 => ⟨S128x1x21, .f32⟩
  | _ => ⟨S128x256x32x32, .f32⟩

abbrev hbmTy0_1 (i : Nat) : BufTy := match i % 128 with
  | 0 => ⟨S128x1x21, .i1⟩
  | 1 => ⟨S128x1x21, .i1⟩
  | 2 => ⟨S_, .f32⟩
  | 3 => ⟨S128x1x21, .f32⟩
  | 4 => ⟨S128x1x21, .i1⟩
  | 5 => ⟨S128x1x21, .i1⟩
  | 6 => ⟨S_, .f32⟩
  | 7 => ⟨S128x1x21, .f32⟩
  | 8 => ⟨S128x1x21, .i1⟩
  | 9 => ⟨S128x1x21, .i1⟩
  | 10 => ⟨S128x1x21, .f32⟩
  | 11 => ⟨S_, .i32⟩
  | 12 => ⟨S_, .i32⟩
  | 13 => ⟨S_, .f32⟩
  | 14 => ⟨S128x1x21, .f32⟩
  | 15 => ⟨S128x1x21, .f32⟩
  | 16 => ⟨S_, .f32⟩
  | 17 => ⟨S128x1x21, .f32⟩
  | 18 => ⟨S128x1x21, .f32⟩
  | 19 => ⟨S128x1x21, .i32⟩
  | 20 => ⟨S_, .i32⟩
  | 21 => ⟨S_, .i32⟩
  | 22 => ⟨S_, .f32⟩
  | 23 => ⟨S128x1x21, .f32⟩
  | 24 => ⟨S128x1x21, .f32⟩
  | 25 => ⟨S_, .f32⟩
  | 26 => ⟨S128x1x21, .f32⟩
  | 27 => ⟨S128x1x21, .f32⟩
  | 28 => ⟨S128x1x21, .i32⟩
  | 29 => ⟨S128x256x1024, .f32⟩
  | 30 => ⟨S_, .i32⟩
  | 31 => ⟨S128x1x21, .i32⟩
  | 32 => ⟨S128x1x21, .i32⟩
  | 33 => ⟨S128x1x21, .i32⟩
  | 34 => ⟨S128x21, .i32⟩
  | 35 => ⟨S_, .i32⟩
  | 36 => ⟨S128x21, .i32⟩
  | 37 => ⟨S128x21, .i1⟩
  | 38 => ⟨S_, .i32⟩
  | 39 => ⟨S128x21, .i32⟩
  | 40 => ⟨S128x21, .i32⟩
  | 41 => ⟨S128x21, .i32⟩
  | 42 => ⟨S128x21x1, .i32⟩
  | 43 => ⟨S128x256x21, .f32⟩
  | 44 => ⟨S128x256x1x21, .f32⟩
  | 45 => ⟨S128x1x21, .f32⟩
  | 46 => ⟨S128x1x1x21, .f32⟩
  | 47 => ⟨S128x256x1x21, .f32⟩
  | 48 => ⟨S128x256x1x21, .f32⟩
  | 49 => ⟨S128x256x1x21, .f32⟩
  | 50 => ⟨S_, .f32⟩
  | 51 => ⟨S128x1x21, .f32⟩
  | 52 => ⟨S128x1x21, .i1⟩
  | 53 => ⟨S_, .f32⟩
  | 54 => ⟨S128x1x21, .f32⟩
  | 55 => ⟨S128x1x21, .i1⟩
  | 56 => ⟨S128x1x21, .i1⟩
  | 57 => ⟨S_, .f32⟩
  | 58 => ⟨S128x1x21, .f32⟩
  | 59 => ⟨S128x1x21, .i1⟩
  | 60 => ⟨S128x1x21, .i1⟩
  | 61 => ⟨S_, .f32⟩
  | 62 => ⟨S128x1x21, .f32⟩
  | 63 => ⟨S128x1x21, .i1⟩
  | 64 => ⟨S128x1x21, .i1⟩
  | 65 => ⟨S128x1x21, .f32⟩
  | 66 => ⟨S_, .i32⟩
  | 67 => ⟨S_, .i32⟩
  | 68 => ⟨S_, .f32⟩
  | 69 => ⟨S128x1x21, .f32⟩
  | 70 => ⟨S128x1x21, .f32⟩
  | 71 => ⟨S_, .f32⟩
  | 72 => ⟨S128x1x21, .f32⟩
  | 73 => ⟨S128x1x21, .f32⟩
  | 74 => ⟨S128x1x21, .i32⟩
  | 75 => ⟨S_, .i32⟩
  | 76 => ⟨S_, .i32⟩
  | 77 => ⟨S_, .f32⟩
  | 78 => ⟨S128x1x21, .f32⟩
  | 79 => ⟨S128x1x21, .f32⟩
  | 80 => ⟨S_, .f32⟩
  | 81 => ⟨S128x1x21, .f32⟩
  | 82 => ⟨S128x1x21, .f32⟩
  | 83 => ⟨S128x1x21, .i32⟩
  | 84 => ⟨S128x256x1024, .f32⟩
  | 85 => ⟨S_, .i32⟩
  | 86 => ⟨S128x1x21, .i32⟩
  | 87 => ⟨S128x1x21, .i32⟩
  | 88 => ⟨S128x1x21, .i32⟩
  | 89 => ⟨S128x21, .i32⟩
  | 90 => ⟨S_, .i32⟩
  | 91 => ⟨S128x21, .i32⟩
  | 92 => ⟨S128x21, .i1⟩
  | 93 => ⟨S_, .i32⟩
  | 94 => ⟨S128x21, .i32⟩
  | 95 => ⟨S128x21, .i32⟩
  | 96 => ⟨S128x21, .i32⟩
  | 97 => ⟨S128x21x1, .i32⟩
  | 98 => ⟨S128x256x21, .f32⟩
  | 99 => ⟨S128x256x1x21, .f32⟩
  | 100 => ⟨S128x1x21, .f32⟩
  | 101 => ⟨S128x1x1x21, .f32⟩
  | 102 => ⟨S128x256x1x21, .f32⟩
  | 103 => ⟨S128x256x1x21, .f32⟩
  | 104 => ⟨S128x256x1x21, .f32⟩
  | 105 => ⟨S_, .f32⟩
  | 106 => ⟨S128x1x21, .f32⟩
  | 107 => ⟨S128x1x21, .i1⟩
  | 108 => ⟨S_, .f32⟩
  | 109 => ⟨S128x1x21, .f32⟩
  | 110 => ⟨S128x1x21, .i1⟩
  | 111 => ⟨S128x1x21, .i1⟩
  | 112 => ⟨S_, .f32⟩
  | 113 => ⟨S128x1x21, .f32⟩
  | 114 => ⟨S128x1x21, .i1⟩
  | 115 => ⟨S128x1x21, .i1⟩
  | 116 => ⟨S_, .f32⟩
  | 117 => ⟨S128x1x21, .f32⟩
  | 118 => ⟨S128x1x21, .i1⟩
  | 119 => ⟨S128x1x21, .i1⟩
  | 120 => ⟨S128x1x21, .f32⟩
  | 121 => ⟨S_, .i32⟩
  | 122 => ⟨S_, .i32⟩
  | 123 => ⟨S_, .f32⟩
  | 124 => ⟨S128x1x21, .f32⟩
  | 125 => ⟨S128x1x21, .f32⟩
  | 126 => ⟨S_, .f32⟩
  | 127 => ⟨S128x1x21, .f32⟩
  | _ => ⟨S128x256x32x32, .f32⟩

abbrev hbmTy0_2 (i : Nat) : BufTy := match i % 128 with
  | 0 => ⟨S128x1x21, .f32⟩
  | 1 => ⟨S128x1x21, .i32⟩
  | 2 => ⟨S_, .i32⟩
  | 3 => ⟨S_, .i32⟩
  | 4 => ⟨S_, .f32⟩
  | 5 => ⟨S128x1x21, .f32⟩
  | 6 => ⟨S128x1x21, .f32⟩
  | 7 => ⟨S_, .f32⟩
  | 8 => ⟨S128x1x21, .f32⟩
  | 9 => ⟨S128x1x21, .f32⟩
  | 10 => ⟨S128x1x21, .i32⟩
  | 11 => ⟨S128x256x1024, .f32⟩
  | 12 => ⟨S_, .i32⟩
  | 13 => ⟨S128x1x21, .i32⟩
  | 14 => ⟨S128x1x21, .i32⟩
  | 15 => ⟨S128x1x21, .i32⟩
  | 16 => ⟨S128x21, .i32⟩
  | 17 => ⟨S_, .i32⟩
  | 18 => ⟨S128x21, .i32⟩
  | 19 => ⟨S128x21, .i1⟩
  | 20 => ⟨S_, .i32⟩
  | 21 => ⟨S128x21, .i32⟩
  | 22 => ⟨S128x21, .i32⟩
  | 23 => ⟨S128x21, .i32⟩
  | 24 => ⟨S128x21x1, .i32⟩
  | 25 => ⟨S128x256x21, .f32⟩
  | 26 => ⟨S128x256x1x21, .f32⟩
  | 27 => ⟨S128x1x21, .f32⟩
  | 28 => ⟨S128x1x1x21, .f32⟩
  | 29 => ⟨S128x256x1x21, .f32⟩
  | 30 => ⟨S128x256x1x21, .f32⟩
  | 31 => ⟨S128x256x1x21, .f32⟩
  | 32 => ⟨S128x256x21, .f32⟩
  | 33 => ⟨S128x21x128, .f32⟩
  | 34 => ⟨S128x128x21, .f32⟩
  | 35 => ⟨S1x128x1, .f32⟩
  | 36 => ⟨S128x128x21, .f32⟩
  | 37 => ⟨S128x128x21, .f32⟩
  | 38 => ⟨S_, .f32⟩
  | 39 => ⟨S128, .f32⟩
  | 40 => ⟨S1x128x1, .f32⟩
  | 41 => ⟨S_, .f32⟩
  | 42 => ⟨S1x128x1, .f32⟩
  | 43 => ⟨S1x128x1, .f32⟩
  | 44 => ⟨S_, .i32⟩
  | 45 => ⟨S_, .f32⟩
  | 46 => ⟨S128, .f32⟩
  | 47 => ⟨S1x128x1, .f32⟩
  | 48 => ⟨S_, .f32⟩
  | 49 => ⟨S1x128x1, .f32⟩
  | 50 => ⟨S1x128x1, .f32⟩
  | 51 => ⟨S128x128x21, .f32⟩
  | 52 => ⟨S128x128x21, .f32⟩
  | 53 => ⟨S128x128x21, .f32⟩
  | 54 => ⟨S_, .f32⟩
  | 55 => ⟨S_, .f32⟩
  | 56 => ⟨S_, .f32⟩
  | 57 => ⟨S_, .f32⟩
  | 58 => ⟨S128, .f32⟩
  | 59 => ⟨S1x128x1, .f32⟩
  | 60 => ⟨S1x128x1, .f32⟩
  | 61 => ⟨S1x128x1, .f32⟩
  | 62 => ⟨S_, .f32⟩
  | 63 => ⟨S_, .i1⟩
  | 64 => ⟨S_, .f32⟩
  | 65 => ⟨S_, .f32⟩
  | 66 => ⟨S1x128x1, .f32⟩
  | 67 => ⟨S1x128x1, .f32⟩
  | 68 => ⟨S128x128x21, .f32⟩
  | 69 => ⟨S128x128x21, .f32⟩
  | 70 => ⟨S_, .f32⟩
  | 71 => ⟨S1x128x1, .f32⟩
  | 72 => ⟨S1x128x1, .f32⟩
  | 73 => ⟨S1x128x1, .f32⟩
  | 74 => ⟨S128x128x21, .f32⟩
  | 75 => ⟨S128x128x21, .f32⟩
  | 76 => ⟨S1x128x1, .f32⟩
  | 77 => ⟨S128x128x21, .f32⟩
  | 78 => ⟨S128x128x21, .f32⟩
  | 79 => ⟨S1x128x1, .f32⟩
  | 80 => ⟨S128x128x21, .f32⟩
  | 81 => ⟨S128x128x21, .f32⟩
  | 82 => ⟨S_, .f32⟩
  | 83 => ⟨S128x128x21, .f32⟩
  | 84 => ⟨S128x128x21, .f32⟩
  | 85 => ⟨S128x21x128, .f32⟩
  | 86 => ⟨S128x128x21, .f32⟩
  | 87 => ⟨S1x128x1, .f32⟩
  | 88 => ⟨S128x128x21, .f32⟩
  | 89 => ⟨S128x128x21, .f32⟩
  | 90 => ⟨S128x2688, .f32⟩
  | 91 => ⟨S128x128x21, .f32⟩
  | 92 => ⟨S128x21x128, .f32⟩
  | 93 => ⟨S128x1x21x2, .f32⟩
  | 94 => ⟨S128x1x21x1, .f32⟩
  | 95 => ⟨S128x1x21, .f32⟩
  | 96 => ⟨S_, .f32⟩
  | 97 => ⟨S128x1x21, .f32⟩
  | 98 => ⟨S128x1x21, .f32⟩
  | 99 => ⟨S_, .f32⟩
  | 100 => ⟨S128x1x21, .f32⟩
  | 101 => ⟨S128x1x21, .f32⟩
  | 102 => ⟨S_, .f32⟩
  | 103 => ⟨S128x1x21, .f32⟩
  | 104 => ⟨S128x1x21, .f32⟩
  | 105 => ⟨S_, .f32⟩
  | 106 => ⟨S128x1x21, .f32⟩
  | 107 => ⟨S128x1x21, .f32⟩
  | 108 => ⟨S128x1x21x1, .f32⟩
  | 109 => ⟨S128x1x21, .f32⟩
  | 110 => ⟨S_, .f32⟩
  | 111 => ⟨S128x1x21, .f32⟩
  | 112 => ⟨S128x1x21, .f32⟩
  | 113 => ⟨S_, .f32⟩
  | 114 => ⟨S128x1x21, .f32⟩
  | 115 => ⟨S128x1x21, .f32⟩
  | 116 => ⟨S_, .f32⟩
  | 117 => ⟨S128x1x21, .f32⟩
  | 118 => ⟨S128x1x21, .f32⟩
  | 119 => ⟨S_, .f32⟩
  | 120 => ⟨S128x1x21, .f32⟩
  | 121 => ⟨S128x1x21, .f32⟩
  | 122 => ⟨S128x1x21, .f32⟩
  | 123 => ⟨S128x1x21, .f32⟩
  | 124 => ⟨S_, .f32⟩
  | 125 => ⟨S128x1x21, .f32⟩
  | 126 => ⟨S128x1x21, .f32⟩
  | 127 => ⟨S_, .f32⟩
  | _ => ⟨S128x256x32x32, .f32⟩

abbrev hbmTy0_3 (i : Nat) : BufTy := match i % 128 with
  | 0 => ⟨S128x1x21, .f32⟩
  | 1 => ⟨S128x1x21, .f32⟩
  | 2 => ⟨S128x1x21, .f32⟩
  | 3 => ⟨S128x1x21, .f32⟩
  | 4 => ⟨S128x1x21, .f32⟩
  | 5 => ⟨S128x1x21, .f32⟩
  | 6 => ⟨S128x1x21, .f32⟩
  | 7 => ⟨S128x1x21, .f32⟩
  | 8 => ⟨S128x1x21, .f32⟩
  | 9 => ⟨S128x1x21, .f32⟩
  | 10 => ⟨S128x1x21, .f32⟩
  | 11 => ⟨S128x1x21, .f32⟩
  | 12 => ⟨S128x1x21, .f32⟩
  | 13 => ⟨S128x1x21, .f32⟩
  | 14 => ⟨S_, .f32⟩
  | 15 => ⟨S128x1x21, .f32⟩
  | 16 => ⟨S128x1x21, .i1⟩
  | 17 => ⟨S_, .f32⟩
  | 18 => ⟨S128x1x21, .f32⟩
  | 19 => ⟨S128x1x21, .i1⟩
  | 20 => ⟨S128x1x21, .i1⟩
  | 21 => ⟨S_, .f32⟩
  | 22 => ⟨S128x1x21, .f32⟩
  | 23 => ⟨S128x1x21, .i1⟩
  | 24 => ⟨S128x1x21, .i1⟩
  | 25 => ⟨S_, .f32⟩
  | 26 => ⟨S128x1x21, .f32⟩
  | 27 => ⟨S128x1x21, .i1⟩
  | 28 => ⟨S128x1x21, .i1⟩
  | 29 => ⟨S128x1x21, .f32⟩
  | 30 => ⟨S_, .i32⟩
  | 31 => ⟨S_, .i32⟩
  | 32 => ⟨S_, .f32⟩
  | 33 => ⟨S128x1x21, .f32⟩
  | 34 => ⟨S128x1x21, .f32⟩
  | 35 => ⟨S_, .f32⟩
  | 36 => ⟨S128x1x21, .f32⟩
  | 37 => ⟨S128x1x21, .f32⟩
  | 38 => ⟨S128x1x21, .i32⟩
  | 39 => ⟨S_, .i32⟩
  | 40 => ⟨S_, .i32⟩
  | 41 => ⟨S_, .f32⟩
  | 42 => ⟨S128x1x21, .f32⟩
  | 43 => ⟨S128x1x21, .f32⟩
  | 44 => ⟨S_, .f32⟩
  | 45 => ⟨S128x1x21, .f32⟩
  | 46 => ⟨S128x1x21, .f32⟩
  | 47 => ⟨S128x1x21, .i32⟩
  | 48 => ⟨S128x256x1024, .f32⟩
  | 49 => ⟨S_, .i32⟩
  | 50 => ⟨S128x1x21, .i32⟩
  | 51 => ⟨S128x1x21, .i32⟩
  | 52 => ⟨S128x1x21, .i32⟩
  | 53 => ⟨S128x21, .i32⟩
  | 54 => ⟨S_, .i32⟩
  | 55 => ⟨S128x21, .i32⟩
  | 56 => ⟨S128x21, .i1⟩
  | 57 => ⟨S_, .i32⟩
  | 58 => ⟨S128x21, .i32⟩
  | 59 => ⟨S128x21, .i32⟩
  | 60 => ⟨S128x21, .i32⟩
  | 61 => ⟨S128x21x1, .i32⟩
  | 62 => ⟨S128x256x21, .f32⟩
  | 63 => ⟨S128x256x1x21, .f32⟩
  | 64 => ⟨S128x1x21, .f32⟩
  | 65 => ⟨S128x1x1x21, .f32⟩
  | 66 => ⟨S128x256x1x21, .f32⟩
  | 67 => ⟨S128x256x1x21, .f32⟩
  | 68 => ⟨S_, .f32⟩
  | 69 => ⟨S128x1x21, .f32⟩
  | 70 => ⟨S128x1x21, .i1⟩
  | 71 => ⟨S_, .f32⟩
  | 72 => ⟨S128x1x21, .f32⟩
  | 73 => ⟨S128x1x21, .i1⟩
  | 74 => ⟨S128x1x21, .i1⟩
  | 75 => ⟨S_, .f32⟩
  | 76 => ⟨S128x1x21, .f32⟩
  | 77 => ⟨S128x1x21, .i1⟩
  | 78 => ⟨S128x1x21, .i1⟩
  | 79 => ⟨S_, .f32⟩
  | 80 => ⟨S128x1x21, .f32⟩
  | 81 => ⟨S128x1x21, .i1⟩
  | 82 => ⟨S128x1x21, .i1⟩
  | 83 => ⟨S128x1x21, .f32⟩
  | 84 => ⟨S_, .i32⟩
  | 85 => ⟨S_, .i32⟩
  | 86 => ⟨S_, .f32⟩
  | 87 => ⟨S128x1x21, .f32⟩
  | 88 => ⟨S128x1x21, .f32⟩
  | 89 => ⟨S_, .f32⟩
  | 90 => ⟨S128x1x21, .f32⟩
  | 91 => ⟨S128x1x21, .f32⟩
  | 92 => ⟨S128x1x21, .i32⟩
  | 93 => ⟨S_, .i32⟩
  | 94 => ⟨S_, .i32⟩
  | 95 => ⟨S_, .f32⟩
  | 96 => ⟨S128x1x21, .f32⟩
  | 97 => ⟨S128x1x21, .f32⟩
  | 98 => ⟨S_, .f32⟩
  | 99 => ⟨S128x1x21, .f32⟩
  | 100 => ⟨S128x1x21, .f32⟩
  | 101 => ⟨S128x1x21, .i32⟩
  | 102 => ⟨S128x256x1024, .f32⟩
  | 103 => ⟨S_, .i32⟩
  | 104 => ⟨S128x1x21, .i32⟩
  | 105 => ⟨S128x1x21, .i32⟩
  | 106 => ⟨S128x1x21, .i32⟩
  | 107 => ⟨S128x21, .i32⟩
  | 108 => ⟨S_, .i32⟩
  | 109 => ⟨S128x21, .i32⟩
  | 110 => ⟨S128x21, .i1⟩
  | 111 => ⟨S_, .i32⟩
  | 112 => ⟨S128x21, .i32⟩
  | 113 => ⟨S128x21, .i32⟩
  | 114 => ⟨S128x21, .i32⟩
  | 115 => ⟨S128x21x1, .i32⟩
  | 116 => ⟨S128x256x21, .f32⟩
  | 117 => ⟨S128x256x1x21, .f32⟩
  | 118 => ⟨S128x1x21, .f32⟩
  | 119 => ⟨S128x1x1x21, .f32⟩
  | 120 => ⟨S128x256x1x21, .f32⟩
  | 121 => ⟨S128x256x1x21, .f32⟩
  | 122 => ⟨S128x256x1x21, .f32⟩
  | 123 => ⟨S_, .f32⟩
  | 124 => ⟨S128x1x21, .f32⟩
  | 125 => ⟨S128x1x21, .i1⟩
  | 126 => ⟨S_, .f32⟩
  | 127 => ⟨S128x1x21, .f32⟩
  | _ => ⟨S128x256x32x32, .f32⟩

abbrev hbmTy0_4 (i : Nat) : BufTy := match i % 128 with
  | 0 => ⟨S128x1x21, .i1⟩
  | 1 => ⟨S128x1x21, .i1⟩
  | 2 => ⟨S_, .f32⟩
  | 3 => ⟨S128x1x21, .f32⟩
  | 4 => ⟨S128x1x21, .i1⟩
  | 5 => ⟨S128x1x21, .i1⟩
  | 6 => ⟨S_, .f32⟩
  | 7 => ⟨S128x1x21, .f32⟩
  | 8 => ⟨S128x1x21, .i1⟩
  | 9 => ⟨S128x1x21, .i1⟩
  | 10 => ⟨S128x1x21, .f32⟩
  | 11 => ⟨S_, .i32⟩
  | 12 => ⟨S_, .i32⟩
  | 13 => ⟨S_, .f32⟩
  | 14 => ⟨S128x1x21, .f32⟩
  | 15 => ⟨S128x1x21, .f32⟩
  | 16 => ⟨S_, .f32⟩
  | 17 => ⟨S128x1x21, .f32⟩
  | 18 => ⟨S128x1x21, .f32⟩
  | 19 => ⟨S128x1x21, .i32⟩
  | 20 => ⟨S_, .i32⟩
  | 21 => ⟨S_, .i32⟩
  | 22 => ⟨S_, .f32⟩
  | 23 => ⟨S128x1x21, .f32⟩
  | 24 => ⟨S128x1x21, .f32⟩
  | 25 => ⟨S_, .f32⟩
  | 26 => ⟨S128x1x21, .f32⟩
  | 27 => ⟨S128x1x21, .f32⟩
  | 28 => ⟨S128x1x21, .i32⟩
  | 29 => ⟨S128x256x1024, .f32⟩
  | 30 => ⟨S_, .i32⟩
  | 31 => ⟨S128x1x21, .i32⟩
  | 32 => ⟨S128x1x21, .i32⟩
  | 33 => ⟨S128x1x21, .i32⟩
  | 34 => ⟨S128x21, .i32⟩
  | 35 => ⟨S_, .i32⟩
  | 36 => ⟨S128x21, .i32⟩
  | 37 => ⟨S128x21, .i1⟩
  | 38 => ⟨S_, .i32⟩
  | 39 => ⟨S128x21, .i32⟩
  | 40 => ⟨S128x21, .i32⟩
  | 41 => ⟨S128x21, .i32⟩
  | 42 => ⟨S128x21x1, .i32⟩
  | 43 => ⟨S128x256x21, .f32⟩
  | 44 => ⟨S128x256x1x21, .f32⟩
  | 45 => ⟨S128x1x21, .f32⟩
  | 46 => ⟨S128x1x1x21, .f32⟩
  | 47 => ⟨S128x256x1x21, .f32⟩
  | 48 => ⟨S128x256x1x21, .f32⟩
  | 49 => ⟨S128x256x1x21, .f32⟩
  | 50 => ⟨S_, .f32⟩
  | 51 => ⟨S128x1x21, .f32⟩
  | 52 => ⟨S128x1x21, .i1⟩
  | 53 => ⟨S_, .f32⟩
  | 54 => ⟨S128x1x21, .f32⟩
  | 55 => ⟨S128x1x21, .i1⟩
  | 56 => ⟨S128x1x21, .i1⟩
  | 57 => ⟨S_, .f32⟩
  | 58 => ⟨S128x1x21, .f32⟩
  | 59 => ⟨S128x1x21, .i1⟩
  | 60 => ⟨S128x1x21, .i1⟩
  | 61 => ⟨S_, .f32⟩
  | 62 => ⟨S128x1x21, .f32⟩
  | 63 => ⟨S128x1x21, .i1⟩
  | 64 => ⟨S128x1x21, .i1⟩
  | 65 => ⟨S128x1x21, .f32⟩
  | 66 => ⟨S_, .i32⟩
  | 67 => ⟨S_, .i32⟩
  | 68 => ⟨S_, .f32⟩
  | 69 => ⟨S128x1x21, .f32⟩
  | 70 => ⟨S128x1x21, .f32⟩
  | 71 => ⟨S_, .f32⟩
  | 72 => ⟨S128x1x21, .f32⟩
  | 73 => ⟨S128x1x21, .f32⟩
  | 74 => ⟨S128x1x21, .i32⟩
  | 75 => ⟨S_, .i32⟩
  | 76 => ⟨S_, .i32⟩
  | 77 => ⟨S_, .f32⟩
  | 78 => ⟨S128x1x21, .f32⟩
  | 79 => ⟨S128x1x21, .f32⟩
  | 80 => ⟨S_, .f32⟩
  | 81 => ⟨S128x1x21, .f32⟩
  | 82 => ⟨S128x1x21, .f32⟩
  | 83 => ⟨S128x1x21, .i32⟩
  | 84 => ⟨S128x256x1024, .f32⟩
  | 85 => ⟨S_, .i32⟩
  | 86 => ⟨S128x1x21, .i32⟩
  | 87 => ⟨S128x1x21, .i32⟩
  | 88 => ⟨S128x1x21, .i32⟩
  | 89 => ⟨S128x21, .i32⟩
  | 90 => ⟨S_, .i32⟩
  | 91 => ⟨S128x21, .i32⟩
  | 92 => ⟨S128x21, .i1⟩
  | 93 => ⟨S_, .i32⟩
  | 94 => ⟨S128x21, .i32⟩
  | 95 => ⟨S128x21, .i32⟩
  | 96 => ⟨S128x21, .i32⟩
  | 97 => ⟨S128x21x1, .i32⟩
  | 98 => ⟨S128x256x21, .f32⟩
  | 99 => ⟨S128x256x1x21, .f32⟩
  | 100 => ⟨S128x1x21, .f32⟩
  | 101 => ⟨S128x1x1x21, .f32⟩
  | 102 => ⟨S128x256x1x21, .f32⟩
  | 103 => ⟨S128x256x1x21, .f32⟩
  | 104 => ⟨S128x256x1x21, .f32⟩
  | 105 => ⟨S128x256x21, .f32⟩
  | 106 => ⟨S128x21x128, .f32⟩
  | 107 => ⟨S128x128x21, .f32⟩
  | 108 => ⟨S1x128x1, .f32⟩
  | 109 => ⟨S128x128x21, .f32⟩
  | 110 => ⟨S128x128x21, .f32⟩
  | 111 => ⟨S_, .f32⟩
  | 112 => ⟨S128, .f32⟩
  | 113 => ⟨S1x128x1, .f32⟩
  | 114 => ⟨S_, .f32⟩
  | 115 => ⟨S1x128x1, .f32⟩
  | 116 => ⟨S1x128x1, .f32⟩
  | 117 => ⟨S_, .i32⟩
  | 118 => ⟨S_, .f32⟩
  | 119 => ⟨S128, .f32⟩
  | 120 => ⟨S1x128x1, .f32⟩
  | 121 => ⟨S_, .f32⟩
  | 122 => ⟨S1x128x1, .f32⟩
  | 123 => ⟨S1x128x1, .f32⟩
  | 124 => ⟨S128x128x21, .f32⟩
  | 125 => ⟨S128x128x21, .f32⟩
  | 126 => ⟨S128x128x21, .f32⟩
  | 127 => ⟨S_, .f32⟩
  | _ => ⟨S128x256x32x32, .f32⟩

abbrev hbmTy0_5 (i : Nat) : BufTy := match i % 128 with
  | 0 => ⟨S_, .f32⟩
  | 1 => ⟨S_, .f32⟩
  | 2 => ⟨S_, .f32⟩
  | 3 => ⟨S128, .f32⟩
  | 4 => ⟨S1x128x1, .f32⟩
  | 5 => ⟨S1x128x1, .f32⟩
  | 6 => ⟨S1x128x1, .f32⟩
  | 7 => ⟨S_, .f32⟩
  | 8 => ⟨S_, .i1⟩
  | 9 => ⟨S_, .f32⟩
  | 10 => ⟨S_, .f32⟩
  | 11 => ⟨S1x128x1, .f32⟩
  | 12 => ⟨S1x128x1, .f32⟩
  | 13 => ⟨S128x128x21, .f32⟩
  | 14 => ⟨S128x128x21, .f32⟩
  | 15 => ⟨S_, .f32⟩
  | 16 => ⟨S1x128x1, .f32⟩
  | 17 => ⟨S1x128x1, .f32⟩
  | 18 => ⟨S1x128x1, .f32⟩
  | 19 => ⟨S128x128x21, .f32⟩
  | 20 => ⟨S128x128x21, .f32⟩
  | 21 => ⟨S1x128x1, .f32⟩
  | 22 => ⟨S128x128x21, .f32⟩
  | 23 => ⟨S128x128x21, .f32⟩
  | 24 => ⟨S1x128x1, .f32⟩
  | 25 => ⟨S128x128x21, .f32⟩
  | 26 => ⟨S128x128x21, .f32⟩
  | 27 => ⟨S_, .f32⟩
  | 28 => ⟨S128x128x21, .f32⟩
  | 29 => ⟨S128x128x21, .f32⟩
  | 30 => ⟨S128x21x128, .f32⟩
  | 31 => ⟨S128x128x21, .f32⟩
  | 32 => ⟨S1x128x1, .f32⟩
  | 33 => ⟨S128x128x21, .f32⟩
  | 34 => ⟨S128x128x21, .f32⟩
  | 35 => ⟨S128x2688, .f32⟩
  | 36 => ⟨S128x128x21, .f32⟩
  | 37 => ⟨S128x21x128, .f32⟩
  | _ => ⟨S128x256x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S128x256x32x32, .f32⟩

abbrev bufTy : (tb : Table) → Fin (tcTables nBuf tb) → BufTy
  | .hbm, ⟨i, _⟩ => hbmTy i
  | _, _ => ⟨S128x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_7 : Ref sig .tc := ⟨.hbm, 51, rfl⟩
abbrev main_v23 : Ref sig .tc := ⟨.hbm, 52, rfl⟩
abbrev main_v24 : Ref sig .tc := ⟨.hbm, 53, rfl⟩
abbrev main_cst_8 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_9 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c : Ref sig .tc := ⟨.hbm, 85, rfl⟩
abbrev main_c_13 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_v51 : Ref sig .tc := ⟨.hbm, 92, rfl⟩
abbrev main_v52 : Ref sig .tc := ⟨.hbm, 93, rfl⟩
abbrev main_c_14 : Ref sig .tc := ⟨.hbm, 94, rfl⟩
abbrev main_c_15 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_c_16 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_c_17 : Ref sig .tc := ⟨.hbm, 109, rfl⟩
abbrev main_v60 : Ref sig .tc := ⟨.hbm, 110, rfl⟩
abbrev main_v61 : Ref sig .tc := ⟨.hbm, 111, rfl⟩
abbrev main_c_18 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_19 : Ref sig .tc := ⟨.hbm, 123, rfl⟩
abbrev main_v72 : Ref sig .tc := ⟨.hbm, 124, rfl⟩
abbrev main_v73 : Ref sig .tc := ⟨.hbm, 125, rfl⟩
abbrev main_cst_20 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_21 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_22 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_c_23 : Ref sig .tc := ⟨.hbm, 139, rfl⟩
abbrev main_c_24 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_v84 : Ref sig .tc := ⟨.hbm, 146, rfl⟩
abbrev main_v85 : Ref sig .tc := ⟨.hbm, 147, rfl⟩
abbrev main_c_25 : Ref sig .tc := ⟨.hbm, 148, rfl⟩
abbrev main_c_26 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_c_27 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_c_28 : Ref sig .tc := ⟨.hbm, 163, rfl⟩
abbrev main_v93 : Ref sig .tc := ⟨.hbm, 164, rfl⟩
abbrev main_v94 : Ref sig .tc := ⟨.hbm, 165, rfl⟩
abbrev main_c_29 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_cst_30 : Ref sig .tc := ⟨.hbm, 178, rfl⟩
abbrev main_v106 : Ref sig .tc := ⟨.hbm, 179, rfl⟩
abbrev main_v107 : Ref sig .tc := ⟨.hbm, 180, rfl⟩
abbrev main_cst_31 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_cst_32 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_cst_33 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_c_34 : Ref sig .tc := ⟨.hbm, 194, rfl⟩
abbrev main_c_35 : Ref sig .tc := ⟨.hbm, 195, rfl⟩
abbrev main_call4_v0 : Ref sig .tc := ⟨.hbm, 196, rfl⟩
abbrev main_call4_v1 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_v118 : Ref sig .tc := ⟨.hbm, 201, rfl⟩
abbrev main_v119 : Ref sig .tc := ⟨.hbm, 202, rfl⟩
abbrev main_c_36 : Ref sig .tc := ⟨.hbm, 203, rfl⟩
abbrev main_c_37 : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_c_38 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_c_39 : Ref sig .tc := ⟨.hbm, 218, rfl⟩
abbrev main_v127 : Ref sig .tc := ⟨.hbm, 219, rfl⟩
abbrev main_v128 : Ref sig .tc := ⟨.hbm, 220, rfl⟩
abbrev main_c_40 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_cst_41 : Ref sig .tc := ⟨.hbm, 233, rfl⟩
abbrev main_v140 : Ref sig .tc := ⟨.hbm, 234, rfl⟩
abbrev main_v141 : Ref sig .tc := ⟨.hbm, 235, rfl⟩
abbrev main_cst_42 : Ref sig .tc := ⟨.hbm, 236, rfl⟩
abbrev main_v142 : Ref sig .tc := ⟨.hbm, 237, rfl⟩
abbrev main_v143 : Ref sig .tc := ⟨.hbm, 238, rfl⟩
abbrev main_v144 : Ref sig .tc := ⟨.hbm, 239, rfl⟩
abbrev main_cst_43 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_cst_44 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_c_45 : Ref sig .tc := ⟨.hbm, 249, rfl⟩
abbrev main_c_46 : Ref sig .tc := ⟨.hbm, 250, rfl⟩
abbrev main_call6_v0 : Ref sig .tc := ⟨.hbm, 251, rfl⟩
abbrev main_call6_v1 : Ref sig .tc := ⟨.hbm, 252, rfl⟩
abbrev main_call6_v2 : Ref sig .tc := ⟨.hbm, 253, rfl⟩
abbrev main_call6_v3 : Ref sig .tc := ⟨.hbm, 254, rfl⟩
abbrev main_call6_v4 : Ref sig .tc := ⟨.hbm, 255, rfl⟩
abbrev main_v152 : Ref sig .tc := ⟨.hbm, 256, rfl⟩
abbrev main_v153 : Ref sig .tc := ⟨.hbm, 257, rfl⟩
abbrev main_c_47 : Ref sig .tc := ⟨.hbm, 258, rfl⟩
abbrev main_c_48 : Ref sig .tc := ⟨.hbm, 259, rfl⟩
abbrev main_call7_v0 : Ref sig .tc := ⟨.hbm, 260, rfl⟩
abbrev main_call7_v1 : Ref sig .tc := ⟨.hbm, 261, rfl⟩
abbrev main_call7_v2 : Ref sig .tc := ⟨.hbm, 262, rfl⟩
abbrev main_call7_v3 : Ref sig .tc := ⟨.hbm, 263, rfl⟩
abbrev main_call7_v4 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_c_49 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_c_50 : Ref sig .tc := ⟨.hbm, 273, rfl⟩
abbrev main_v161 : Ref sig .tc := ⟨.hbm, 274, rfl⟩
abbrev main_v162 : Ref sig .tc := ⟨.hbm, 275, rfl⟩
abbrev main_c_51 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_v178 : Ref sig .tc := ⟨.hbm, 292, rfl⟩
abbrev main_v179 : Ref sig .tc := ⟨.hbm, 293, rfl⟩
abbrev main_cst_52 : Ref sig .tc := ⟨.hbm, 294, rfl⟩
abbrev main_v180 : Ref sig .tc := ⟨.hbm, 295, rfl⟩
abbrev main_v181 : Ref sig .tc := ⟨.hbm, 296, rfl⟩
abbrev main_cst_53 : Ref sig .tc := ⟨.hbm, 297, rfl⟩
abbrev main_v182 : Ref sig .tc := ⟨.hbm, 298, rfl⟩
abbrev main_v183 : Ref sig .tc := ⟨.hbm, 299, rfl⟩
abbrev main_c_54 : Ref sig .tc := ⟨.hbm, 300, rfl⟩
abbrev main_call8_cst : Ref sig .tc := ⟨.hbm, 301, rfl⟩
abbrev main_call8_v0 : Ref sig .tc := ⟨.hbm, 302, rfl⟩
abbrev main_call8_v1 : Ref sig .tc := ⟨.hbm, 303, rfl⟩
abbrev main_call8_cst_0 : Ref sig .tc := ⟨.hbm, 304, rfl⟩
abbrev main_call8_v2 : Ref sig .tc := ⟨.hbm, 305, rfl⟩
abbrev main_call8_v3 : Ref sig .tc := ⟨.hbm, 306, rfl⟩
abbrev main_call8_v4 : Ref sig .tc := ⟨.hbm, 307, rfl⟩
abbrev main_call8_v5 : Ref sig .tc := ⟨.hbm, 308, rfl⟩
abbrev main_call8_v6 : Ref sig .tc := ⟨.hbm, 309, rfl⟩
abbrev main_call8_v7 : Ref sig .tc := ⟨.hbm, 310, rfl⟩
abbrev main_call8_cst_1 : Ref sig .tc := ⟨.hbm, 311, rfl⟩
abbrev main_call8_v8 : Ref sig .tc := ⟨.hbm, 312, rfl⟩
abbrev main_call8_cst_2 : Ref sig .tc := ⟨.hbm, 313, rfl⟩
abbrev main_call8_v9 : Ref sig .tc := ⟨.hbm, 314, rfl⟩
abbrev main_call8_v10 : Ref sig .tc := ⟨.hbm, 315, rfl⟩
abbrev main_call8_v11 : Ref sig .tc := ⟨.hbm, 316, rfl⟩
abbrev main_call8_v12 : Ref sig .tc := ⟨.hbm, 317, rfl⟩
abbrev main_call8_cst_3 : Ref sig .tc := ⟨.hbm, 318, rfl⟩
abbrev main_call8_v13 : Ref sig .tc := ⟨.hbm, 319, rfl⟩
abbrev main_call8_cst_4 : Ref sig .tc := ⟨.hbm, 320, rfl⟩
abbrev main_call8_call0_v0 : Ref sig .tc := ⟨.hbm, 321, rfl⟩
abbrev main_call8_call0_v1 : Ref sig .tc := ⟨.hbm, 322, rfl⟩
abbrev main_v184 : Ref sig .tc := ⟨.hbm, 323, rfl⟩
abbrev main_v185 : Ref sig .tc := ⟨.hbm, 324, rfl⟩
abbrev main_v186 : Ref sig .tc := ⟨.hbm, 325, rfl⟩
abbrev main_cst_55 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_call9_cst : Ref sig .tc := ⟨.hbm, 338, rfl⟩
abbrev main_call9_v0 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_cst_56 : Ref sig .tc := ⟨.hbm, 352, rfl⟩
abbrev main_v210 : Ref sig .tc := ⟨.hbm, 353, rfl⟩
abbrev main_v211 : Ref sig .tc := ⟨.hbm, 354, rfl⟩
abbrev main_cst_57 : Ref sig .tc := ⟨.hbm, 355, rfl⟩
abbrev main_v212 : Ref sig .tc := ⟨.hbm, 356, rfl⟩
abbrev main_v213 : Ref sig .tc := ⟨.hbm, 357, rfl⟩
abbrev main_cst_58 : Ref sig .tc := ⟨.hbm, 358, rfl⟩
abbrev main_v214 : Ref sig .tc := ⟨.hbm, 359, rfl⟩
abbrev main_v215 : Ref sig .tc := ⟨.hbm, 360, rfl⟩
abbrev main_cst_59 : Ref sig .tc := ⟨.hbm, 361, rfl⟩
abbrev main_v216 : Ref sig .tc := ⟨.hbm, 362, rfl⟩
abbrev main_v217 : Ref sig .tc := ⟨.hbm, 363, rfl⟩
abbrev main_v218 : Ref sig .tc := ⟨.hbm, 364, rfl⟩
abbrev main_v219 : Ref sig .tc := ⟨.hbm, 365, rfl⟩
abbrev main_cst_60 : Ref sig .tc := ⟨.hbm, 366, rfl⟩
abbrev main_v220 : Ref sig .tc := ⟨.hbm, 367, rfl⟩
abbrev main_v221 : Ref sig .tc := ⟨.hbm, 368, rfl⟩
abbrev main_cst_61 : Ref sig .tc := ⟨.hbm, 369, rfl⟩
abbrev main_v222 : Ref sig .tc := ⟨.hbm, 370, rfl⟩
abbrev main_v223 : Ref sig .tc := ⟨.hbm, 371, rfl⟩
abbrev main_cst_62 : Ref sig .tc := ⟨.hbm, 372, rfl⟩
abbrev main_v224 : Ref sig .tc := ⟨.hbm, 373, rfl⟩
abbrev main_v225 : Ref sig .tc := ⟨.hbm, 374, rfl⟩
abbrev main_cst_63 : Ref sig .tc := ⟨.hbm, 375, rfl⟩
abbrev main_v226 : Ref sig .tc := ⟨.hbm, 376, rfl⟩
abbrev main_v227 : Ref sig .tc := ⟨.hbm, 377, rfl⟩
abbrev main_v228 : Ref sig .tc := ⟨.hbm, 378, rfl⟩
abbrev main_v229 : Ref sig .tc := ⟨.hbm, 379, rfl⟩
abbrev main_cst_64 : Ref sig .tc := ⟨.hbm, 380, rfl⟩
abbrev main_v230 : Ref sig .tc := ⟨.hbm, 381, rfl⟩
abbrev main_v231 : Ref sig .tc := ⟨.hbm, 382, rfl⟩
abbrev main_cst_65 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev main_v237 : Ref sig .tc := ⟨.hbm, 389, rfl⟩
abbrev main_v238 : Ref sig .tc := ⟨.hbm, 390, rfl⟩
abbrev main_v239 : Ref sig .tc := ⟨.hbm, 391, rfl⟩
abbrev main_v240 : Ref sig .tc := ⟨.hbm, 392, rfl⟩
abbrev main_v241 : Ref sig .tc := ⟨.hbm, 393, rfl⟩
abbrev main_v242 : Ref sig .tc := ⟨.hbm, 394, rfl⟩
abbrev main_v243 : Ref sig .tc := ⟨.hbm, 395, rfl⟩
abbrev main_v244 : Ref sig .tc := ⟨.hbm, 396, rfl⟩
abbrev main_v245 : Ref sig .tc := ⟨.hbm, 397, rfl⟩
abbrev main_cst_66 : Ref sig .tc := ⟨.hbm, 398, rfl⟩
abbrev main_v246 : Ref sig .tc := ⟨.hbm, 399, rfl⟩
abbrev main_v247 : Ref sig .tc := ⟨.hbm, 400, rfl⟩
abbrev main_cst_67 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_cst_68 : Ref sig .tc := ⟨.hbm, 405, rfl⟩
abbrev main_v251 : Ref sig .tc := ⟨.hbm, 406, rfl⟩
abbrev main_v252 : Ref sig .tc := ⟨.hbm, 407, rfl⟩
abbrev main_v253 : Ref sig .tc := ⟨.hbm, 408, rfl⟩
abbrev main_cst_69 : Ref sig .tc := ⟨.hbm, 409, rfl⟩
abbrev main_v254 : Ref sig .tc := ⟨.hbm, 410, rfl⟩
abbrev main_v255 : Ref sig .tc := ⟨.hbm, 411, rfl⟩
abbrev main_v256 : Ref sig .tc := ⟨.hbm, 412, rfl⟩
abbrev main_v257 : Ref sig .tc := ⟨.hbm, 413, rfl⟩
abbrev main_c_70 : Ref sig .tc := ⟨.hbm, 414, rfl⟩
abbrev main_c_71 : Ref sig .tc := ⟨.hbm, 415, rfl⟩
abbrev main_call10_v0 : Ref sig .tc := ⟨.hbm, 416, rfl⟩
abbrev main_call10_v1 : Ref sig .tc := ⟨.hbm, 417, rfl⟩
abbrev main_call10_v2 : Ref sig .tc := ⟨.hbm, 418, rfl⟩
abbrev main_call10_v3 : Ref sig .tc := ⟨.hbm, 419, rfl⟩
abbrev main_call10_v4 : Ref sig .tc := ⟨.hbm, 420, rfl⟩
abbrev main_v258 : Ref sig .tc := ⟨.hbm, 421, rfl⟩
abbrev main_v259 : Ref sig .tc := ⟨.hbm, 422, rfl⟩
abbrev main_c_72 : Ref sig .tc := ⟨.hbm, 423, rfl⟩
abbrev main_c_73 : Ref sig .tc := ⟨.hbm, 424, rfl⟩
abbrev main_call11_v0 : Ref sig .tc := ⟨.hbm, 425, rfl⟩
abbrev main_call11_v1 : Ref sig .tc := ⟨.hbm, 426, rfl⟩
abbrev main_call11_v2 : Ref sig .tc := ⟨.hbm, 427, rfl⟩
abbrev main_call11_v3 : Ref sig .tc := ⟨.hbm, 428, rfl⟩
abbrev main_call11_v4 : Ref sig .tc := ⟨.hbm, 429, rfl⟩
abbrev main_v260 : Ref sig .tc := ⟨.hbm, 430, rfl⟩
abbrev main_v261 : Ref sig .tc := ⟨.hbm, 431, rfl⟩
abbrev main_v262 : Ref sig .tc := ⟨.hbm, 432, rfl⟩
abbrev main_c_74 : Ref sig .tc := ⟨.hbm, 433, rfl⟩
abbrev main_v263 : Ref sig .tc := ⟨.hbm, 434, rfl⟩
abbrev main_v264 : Ref sig .tc := ⟨.hbm, 435, rfl⟩
abbrev main_v265 : Ref sig .tc := ⟨.hbm, 436, rfl⟩
abbrev main_v266 : Ref sig .tc := ⟨.hbm, 437, rfl⟩
abbrev main_c_75 : Ref sig .tc := ⟨.hbm, 438, rfl⟩
abbrev main_v267 : Ref sig .tc := ⟨.hbm, 439, rfl⟩
abbrev main_v268 : Ref sig .tc := ⟨.hbm, 440, rfl⟩
abbrev main_c_76 : Ref sig .tc := ⟨.hbm, 441, rfl⟩
abbrev main_v269 : Ref sig .tc := ⟨.hbm, 442, rfl⟩
abbrev main_v270 : Ref sig .tc := ⟨.hbm, 443, rfl⟩
abbrev main_v271 : Ref sig .tc := ⟨.hbm, 444, rfl⟩
abbrev main_v272 : Ref sig .tc := ⟨.hbm, 445, rfl⟩
abbrev main_v273 : Ref sig .tc := ⟨.hbm, 446, rfl⟩
abbrev main_v274 : Ref sig .tc := ⟨.hbm, 447, rfl⟩
abbrev main_v275 : Ref sig .tc := ⟨.hbm, 448, rfl⟩
abbrev main_v276 : Ref sig .tc := ⟨.hbm, 449, rfl⟩
abbrev main_v277 : Ref sig .tc := ⟨.hbm, 450, rfl⟩
abbrev main_v278 : Ref sig .tc := ⟨.hbm, 451, rfl⟩
abbrev main_cst_77 : Ref sig .tc := ⟨.hbm, 452, rfl⟩
abbrev main_v279 : Ref sig .tc := ⟨.hbm, 453, rfl⟩
abbrev main_v280 : Ref sig .tc := ⟨.hbm, 454, rfl⟩
abbrev main_cst_78 : Ref sig .tc := ⟨.hbm, 455, rfl⟩
abbrev main_v281 : Ref sig .tc := ⟨.hbm, 456, rfl⟩
abbrev main_v282 : Ref sig .tc := ⟨.hbm, 457, rfl⟩
abbrev main_v283 : Ref sig .tc := ⟨.hbm, 458, rfl⟩
abbrev main_cst_79 : Ref sig .tc := ⟨.hbm, 459, rfl⟩
abbrev main_v284 : Ref sig .tc := ⟨.hbm, 460, rfl⟩
abbrev main_v285 : Ref sig .tc := ⟨.hbm, 461, rfl⟩
abbrev main_v286 : Ref sig .tc := ⟨.hbm, 462, rfl⟩
abbrev main_cst_80 : Ref sig .tc := ⟨.hbm, 463, rfl⟩
abbrev main_v287 : Ref sig .tc := ⟨.hbm, 464, rfl⟩
abbrev main_v288 : Ref sig .tc := ⟨.hbm, 465, rfl⟩
abbrev main_v289 : Ref sig .tc := ⟨.hbm, 466, rfl⟩
abbrev main_v290 : Ref sig .tc := ⟨.hbm, 467, rfl⟩
abbrev main_c_81 : Ref sig .tc := ⟨.hbm, 468, rfl⟩
abbrev main_c_82 : Ref sig .tc := ⟨.hbm, 469, rfl⟩
abbrev main_call12_v0 : Ref sig .tc := ⟨.hbm, 470, rfl⟩
abbrev main_call12_v1 : Ref sig .tc := ⟨.hbm, 471, rfl⟩
abbrev main_call12_v2 : Ref sig .tc := ⟨.hbm, 472, rfl⟩
abbrev main_call12_v3 : Ref sig .tc := ⟨.hbm, 473, rfl⟩
abbrev main_call12_v4 : Ref sig .tc := ⟨.hbm, 474, rfl⟩
abbrev main_v291 : Ref sig .tc := ⟨.hbm, 475, rfl⟩
abbrev main_v292 : Ref sig .tc := ⟨.hbm, 476, rfl⟩
abbrev main_c_83 : Ref sig .tc := ⟨.hbm, 477, rfl⟩
abbrev main_c_84 : Ref sig .tc := ⟨.hbm, 478, rfl⟩
abbrev main_call13_v0 : Ref sig .tc := ⟨.hbm, 479, rfl⟩
abbrev main_call13_v1 : Ref sig .tc := ⟨.hbm, 480, rfl⟩
abbrev main_call13_v2 : Ref sig .tc := ⟨.hbm, 481, rfl⟩
abbrev main_call13_v3 : Ref sig .tc := ⟨.hbm, 482, rfl⟩
abbrev main_call13_v4 : Ref sig .tc := ⟨.hbm, 483, rfl⟩
abbrev main_v293 : Ref sig .tc := ⟨.hbm, 484, rfl⟩
abbrev main_v294 : Ref sig .tc := ⟨.hbm, 485, rfl⟩
abbrev main_v295 : Ref sig .tc := ⟨.hbm, 486, rfl⟩
abbrev main_c_85 : Ref sig .tc := ⟨.hbm, 487, rfl⟩
abbrev main_v296 : Ref sig .tc := ⟨.hbm, 488, rfl⟩
abbrev main_v297 : Ref sig .tc := ⟨.hbm, 489, rfl⟩
abbrev main_v298 : Ref sig .tc := ⟨.hbm, 490, rfl⟩
abbrev main_v299 : Ref sig .tc := ⟨.hbm, 491, rfl⟩
abbrev main_c_86 : Ref sig .tc := ⟨.hbm, 492, rfl⟩
abbrev main_v300 : Ref sig .tc := ⟨.hbm, 493, rfl⟩
abbrev main_v301 : Ref sig .tc := ⟨.hbm, 494, rfl⟩
abbrev main_c_87 : Ref sig .tc := ⟨.hbm, 495, rfl⟩
abbrev main_v302 : Ref sig .tc := ⟨.hbm, 496, rfl⟩
abbrev main_v303 : Ref sig .tc := ⟨.hbm, 497, rfl⟩
abbrev main_v304 : Ref sig .tc := ⟨.hbm, 498, rfl⟩
abbrev main_v305 : Ref sig .tc := ⟨.hbm, 499, rfl⟩
abbrev main_v306 : Ref sig .tc := ⟨.hbm, 500, rfl⟩
abbrev main_v307 : Ref sig .tc := ⟨.hbm, 501, rfl⟩
abbrev main_v308 : Ref sig .tc := ⟨.hbm, 502, rfl⟩
abbrev main_v309 : Ref sig .tc := ⟨.hbm, 503, rfl⟩
abbrev main_v310 : Ref sig .tc := ⟨.hbm, 504, rfl⟩
abbrev main_v311 : Ref sig .tc := ⟨.hbm, 505, rfl⟩
abbrev main_v312 : Ref sig .tc := ⟨.hbm, 506, rfl⟩
abbrev main_cst_88 : Ref sig .tc := ⟨.hbm, 507, rfl⟩
abbrev main_v313 : Ref sig .tc := ⟨.hbm, 508, rfl⟩
abbrev main_v314 : Ref sig .tc := ⟨.hbm, 509, rfl⟩
abbrev main_cst_89 : Ref sig .tc := ⟨.hbm, 510, rfl⟩
abbrev main_v315 : Ref sig .tc := ⟨.hbm, 511, rfl⟩
abbrev main_v316 : Ref sig .tc := ⟨.hbm, 512, rfl⟩
abbrev main_v317 : Ref sig .tc := ⟨.hbm, 513, rfl⟩
abbrev main_cst_90 : Ref sig .tc := ⟨.hbm, 514, rfl⟩
abbrev main_v318 : Ref sig .tc := ⟨.hbm, 515, rfl⟩
abbrev main_v319 : Ref sig .tc := ⟨.hbm, 516, rfl⟩
abbrev main_v320 : Ref sig .tc := ⟨.hbm, 517, rfl⟩
abbrev main_cst_91 : Ref sig .tc := ⟨.hbm, 518, rfl⟩
abbrev main_v321 : Ref sig .tc := ⟨.hbm, 519, rfl⟩
abbrev main_v322 : Ref sig .tc := ⟨.hbm, 520, rfl⟩
abbrev main_v323 : Ref sig .tc := ⟨.hbm, 521, rfl⟩
abbrev main_v324 : Ref sig .tc := ⟨.hbm, 522, rfl⟩
abbrev main_c_92 : Ref sig .tc := ⟨.hbm, 523, rfl⟩
abbrev main_c_93 : Ref sig .tc := ⟨.hbm, 524, rfl⟩
abbrev main_call14_v0 : Ref sig .tc := ⟨.hbm, 525, rfl⟩
abbrev main_call14_v1 : Ref sig .tc := ⟨.hbm, 526, rfl⟩
abbrev main_call14_v2 : Ref sig .tc := ⟨.hbm, 527, rfl⟩
abbrev main_call14_v3 : Ref sig .tc := ⟨.hbm, 528, rfl⟩
abbrev main_call14_v4 : Ref sig .tc := ⟨.hbm, 529, rfl⟩
abbrev main_v325 : Ref sig .tc := ⟨.hbm, 530, rfl⟩
abbrev main_v326 : Ref sig .tc := ⟨.hbm, 531, rfl⟩
abbrev main_c_94 : Ref sig .tc := ⟨.hbm, 532, rfl⟩
abbrev main_c_95 : Ref sig .tc := ⟨.hbm, 533, rfl⟩
abbrev main_call15_v0 : Ref sig .tc := ⟨.hbm, 534, rfl⟩
abbrev main_call15_v1 : Ref sig .tc := ⟨.hbm, 535, rfl⟩
abbrev main_call15_v2 : Ref sig .tc := ⟨.hbm, 536, rfl⟩
abbrev main_call15_v3 : Ref sig .tc := ⟨.hbm, 537, rfl⟩
abbrev main_call15_v4 : Ref sig .tc := ⟨.hbm, 538, rfl⟩
abbrev main_v327 : Ref sig .tc := ⟨.hbm, 539, rfl⟩
abbrev main_v328 : Ref sig .tc := ⟨.hbm, 540, rfl⟩
abbrev main_v329 : Ref sig .tc := ⟨.hbm, 541, rfl⟩
abbrev main_c_96 : Ref sig .tc := ⟨.hbm, 542, rfl⟩
abbrev main_v330 : Ref sig .tc := ⟨.hbm, 543, rfl⟩
abbrev main_v331 : Ref sig .tc := ⟨.hbm, 544, rfl⟩
abbrev main_v332 : Ref sig .tc := ⟨.hbm, 545, rfl⟩
abbrev main_v333 : Ref sig .tc := ⟨.hbm, 546, rfl⟩
abbrev main_c_97 : Ref sig .tc := ⟨.hbm, 547, rfl⟩
abbrev main_v334 : Ref sig .tc := ⟨.hbm, 548, rfl⟩
abbrev main_v335 : Ref sig .tc := ⟨.hbm, 549, rfl⟩
abbrev main_c_98 : Ref sig .tc := ⟨.hbm, 550, rfl⟩
abbrev main_v336 : Ref sig .tc := ⟨.hbm, 551, rfl⟩
abbrev main_v337 : Ref sig .tc := ⟨.hbm, 552, rfl⟩
abbrev main_v338 : Ref sig .tc := ⟨.hbm, 553, rfl⟩
abbrev main_v339 : Ref sig .tc := ⟨.hbm, 554, rfl⟩
abbrev main_v340 : Ref sig .tc := ⟨.hbm, 555, rfl⟩
abbrev main_v341 : Ref sig .tc := ⟨.hbm, 556, rfl⟩
abbrev main_v342 : Ref sig .tc := ⟨.hbm, 557, rfl⟩
abbrev main_v343 : Ref sig .tc := ⟨.hbm, 558, rfl⟩
abbrev main_v344 : Ref sig .tc := ⟨.hbm, 559, rfl⟩
abbrev main_v345 : Ref sig .tc := ⟨.hbm, 560, rfl⟩
abbrev main_v346 : Ref sig .tc := ⟨.hbm, 561, rfl⟩
abbrev main_cst_99 : Ref sig .tc := ⟨.hbm, 562, rfl⟩
abbrev main_v347 : Ref sig .tc := ⟨.hbm, 563, rfl⟩
abbrev main_v348 : Ref sig .tc := ⟨.hbm, 564, rfl⟩
abbrev main_cst_100 : Ref sig .tc := ⟨.hbm, 565, rfl⟩
abbrev main_v349 : Ref sig .tc := ⟨.hbm, 566, rfl⟩
abbrev main_v350 : Ref sig .tc := ⟨.hbm, 567, rfl⟩
abbrev main_v351 : Ref sig .tc := ⟨.hbm, 568, rfl⟩
abbrev main_cst_101 : Ref sig .tc := ⟨.hbm, 569, rfl⟩
abbrev main_v352 : Ref sig .tc := ⟨.hbm, 570, rfl⟩
abbrev main_v353 : Ref sig .tc := ⟨.hbm, 571, rfl⟩
abbrev main_v354 : Ref sig .tc := ⟨.hbm, 572, rfl⟩
abbrev main_cst_102 : Ref sig .tc := ⟨.hbm, 573, rfl⟩
abbrev main_v355 : Ref sig .tc := ⟨.hbm, 574, rfl⟩
abbrev main_v356 : Ref sig .tc := ⟨.hbm, 575, rfl⟩
abbrev main_v357 : Ref sig .tc := ⟨.hbm, 576, rfl⟩
abbrev main_v358 : Ref sig .tc := ⟨.hbm, 577, rfl⟩
abbrev main_c_103 : Ref sig .tc := ⟨.hbm, 578, rfl⟩
abbrev main_c_104 : Ref sig .tc := ⟨.hbm, 579, rfl⟩
abbrev main_call16_v0 : Ref sig .tc := ⟨.hbm, 580, rfl⟩
abbrev main_call16_v1 : Ref sig .tc := ⟨.hbm, 581, rfl⟩
abbrev main_call16_v2 : Ref sig .tc := ⟨.hbm, 582, rfl⟩
abbrev main_call16_v3 : Ref sig .tc := ⟨.hbm, 583, rfl⟩
abbrev main_call16_v4 : Ref sig .tc := ⟨.hbm, 584, rfl⟩
abbrev main_v359 : Ref sig .tc := ⟨.hbm, 585, rfl⟩
abbrev main_v360 : Ref sig .tc := ⟨.hbm, 586, rfl⟩
abbrev main_c_105 : Ref sig .tc := ⟨.hbm, 587, rfl⟩
abbrev main_c_106 : Ref sig .tc := ⟨.hbm, 588, rfl⟩
abbrev main_call17_v0 : Ref sig .tc := ⟨.hbm, 589, rfl⟩
abbrev main_call17_v1 : Ref sig .tc := ⟨.hbm, 590, rfl⟩
abbrev main_call17_v2 : Ref sig .tc := ⟨.hbm, 591, rfl⟩
abbrev main_call17_v3 : Ref sig .tc := ⟨.hbm, 592, rfl⟩
abbrev main_call17_v4 : Ref sig .tc := ⟨.hbm, 593, rfl⟩
abbrev main_v361 : Ref sig .tc := ⟨.hbm, 594, rfl⟩
abbrev main_v362 : Ref sig .tc := ⟨.hbm, 595, rfl⟩
abbrev main_v363 : Ref sig .tc := ⟨.hbm, 596, rfl⟩
abbrev main_c_107 : Ref sig .tc := ⟨.hbm, 597, rfl⟩
abbrev main_v364 : Ref sig .tc := ⟨.hbm, 598, rfl⟩
abbrev main_v365 : Ref sig .tc := ⟨.hbm, 599, rfl⟩
abbrev main_v366 : Ref sig .tc := ⟨.hbm, 600, rfl⟩
abbrev main_v367 : Ref sig .tc := ⟨.hbm, 601, rfl⟩
abbrev main_c_108 : Ref sig .tc := ⟨.hbm, 602, rfl⟩
abbrev main_v368 : Ref sig .tc := ⟨.hbm, 603, rfl⟩
abbrev main_v369 : Ref sig .tc := ⟨.hbm, 604, rfl⟩
abbrev main_c_109 : Ref sig .tc := ⟨.hbm, 605, rfl⟩
abbrev main_v370 : Ref sig .tc := ⟨.hbm, 606, rfl⟩
abbrev main_v371 : Ref sig .tc := ⟨.hbm, 607, rfl⟩
abbrev main_v372 : Ref sig .tc := ⟨.hbm, 608, rfl⟩
abbrev main_v373 : Ref sig .tc := ⟨.hbm, 609, rfl⟩
abbrev main_v374 : Ref sig .tc := ⟨.hbm, 610, rfl⟩
abbrev main_v375 : Ref sig .tc := ⟨.hbm, 611, rfl⟩
abbrev main_v376 : Ref sig .tc := ⟨.hbm, 612, rfl⟩
abbrev main_v377 : Ref sig .tc := ⟨.hbm, 613, rfl⟩
abbrev main_v378 : Ref sig .tc := ⟨.hbm, 614, rfl⟩
abbrev main_v379 : Ref sig .tc := ⟨.hbm, 615, rfl⟩
abbrev main_v380 : Ref sig .tc := ⟨.hbm, 616, rfl⟩
abbrev main_v381 : Ref sig .tc := ⟨.hbm, 617, rfl⟩
abbrev main_v382 : Ref sig .tc := ⟨.hbm, 618, rfl⟩
abbrev main_v383 : Ref sig .tc := ⟨.hbm, 619, rfl⟩
abbrev main_v384 : Ref sig .tc := ⟨.hbm, 620, rfl⟩
abbrev main_v385 : Ref sig .tc := ⟨.hbm, 621, rfl⟩
abbrev main_v386 : Ref sig .tc := ⟨.hbm, 622, rfl⟩
abbrev main_cst_110 : Ref sig .tc := ⟨.hbm, 623, rfl⟩
abbrev main_v387 : Ref sig .tc := ⟨.hbm, 624, rfl⟩
abbrev main_v388 : Ref sig .tc := ⟨.hbm, 625, rfl⟩
abbrev main_cst_111 : Ref sig .tc := ⟨.hbm, 626, rfl⟩
abbrev main_v389 : Ref sig .tc := ⟨.hbm, 627, rfl⟩
abbrev main_v390 : Ref sig .tc := ⟨.hbm, 628, rfl⟩
abbrev main_c_112 : Ref sig .tc := ⟨.hbm, 629, rfl⟩
abbrev main_call18_cst : Ref sig .tc := ⟨.hbm, 630, rfl⟩
abbrev main_call18_v0 : Ref sig .tc := ⟨.hbm, 631, rfl⟩
abbrev main_call18_v1 : Ref sig .tc := ⟨.hbm, 632, rfl⟩
abbrev main_call18_cst_0 : Ref sig .tc := ⟨.hbm, 633, rfl⟩
abbrev main_call18_v2 : Ref sig .tc := ⟨.hbm, 634, rfl⟩
abbrev main_call18_v3 : Ref sig .tc := ⟨.hbm, 635, rfl⟩
abbrev main_call18_v4 : Ref sig .tc := ⟨.hbm, 636, rfl⟩
abbrev main_call18_v5 : Ref sig .tc := ⟨.hbm, 637, rfl⟩
abbrev main_call18_v6 : Ref sig .tc := ⟨.hbm, 638, rfl⟩
abbrev main_call18_v7 : Ref sig .tc := ⟨.hbm, 639, rfl⟩
abbrev main_call18_cst_1 : Ref sig .tc := ⟨.hbm, 640, rfl⟩
abbrev main_call18_v8 : Ref sig .tc := ⟨.hbm, 641, rfl⟩
abbrev main_call18_cst_2 : Ref sig .tc := ⟨.hbm, 642, rfl⟩
abbrev main_call18_v9 : Ref sig .tc := ⟨.hbm, 643, rfl⟩
abbrev main_call18_v10 : Ref sig .tc := ⟨.hbm, 644, rfl⟩
abbrev main_call18_v11 : Ref sig .tc := ⟨.hbm, 645, rfl⟩
abbrev main_call18_v12 : Ref sig .tc := ⟨.hbm, 646, rfl⟩
abbrev main_call18_cst_3 : Ref sig .tc := ⟨.hbm, 647, rfl⟩
abbrev main_call18_v13 : Ref sig .tc := ⟨.hbm, 648, rfl⟩
abbrev main_call18_cst_4 : Ref sig .tc := ⟨.hbm, 649, rfl⟩
abbrev main_call18_call0_v0 : Ref sig .tc := ⟨.hbm, 650, rfl⟩
abbrev main_call18_call0_v1 : Ref sig .tc := ⟨.hbm, 651, rfl⟩
abbrev main_v391 : Ref sig .tc := ⟨.hbm, 652, rfl⟩
abbrev main_v392 : Ref sig .tc := ⟨.hbm, 653, rfl⟩
abbrev main_v393 : Ref sig .tc := ⟨.hbm, 654, rfl⟩
abbrev main_cst_113 : Ref sig .tc := ⟨.hbm, 655, rfl⟩
abbrev main_v394 : Ref sig .tc := ⟨.hbm, 656, rfl⟩
abbrev main_v395 : Ref sig .tc := ⟨.hbm, 657, rfl⟩
abbrev main_v396 : Ref sig .tc := ⟨.hbm, 658, rfl⟩
abbrev main_v397 : Ref sig .tc := ⟨.hbm, 659, rfl⟩
abbrev main_v398 : Ref sig .tc := ⟨.hbm, 660, rfl⟩
abbrev main_v399 : Ref sig .tc := ⟨.hbm, 661, rfl⟩
abbrev main_v400 : Ref sig .tc := ⟨.hbm, 662, rfl⟩
abbrev main_v401 : Ref sig .tc := ⟨.hbm, 663, rfl⟩
abbrev main_v402 : Ref sig .tc := ⟨.hbm, 664, rfl⟩
abbrev main_v403 : Ref sig .tc := ⟨.hbm, 665, rfl⟩
abbrev main_v404 : Ref sig .tc := ⟨.hbm, 666, rfl⟩
abbrev main_call19_cst : Ref sig .tc := ⟨.hbm, 667, rfl⟩
abbrev main_call19_v0 : Ref sig .tc := ⟨.hbm, 668, rfl⟩
abbrev main_v405 : Ref sig .tc := ⟨.hbm, 669, rfl⟩
abbrev main_v406 : Ref sig .tc := ⟨.hbm, 670, rfl⟩
abbrev main_v407 : Ref sig .tc := ⟨.hbm, 671, rfl⟩
abbrev main_v408 : Ref sig .tc := ⟨.hbm, 672, rfl⟩
abbrev main_v409 : Ref sig .tc := ⟨.hbm, 673, rfl⟩
abbrev main_v410 : Ref sig .tc := ⟨.hbm, 674, rfl⟩
abbrev main_v411 : Ref sig .tc := ⟨.hbm, 675, rfl⟩
abbrev main_v412 : Ref sig .tc := ⟨.hbm, 676, rfl⟩
abbrev main_v413 : Ref sig .tc := ⟨.hbm, 677, rfl⟩

abbrev nD : Nat := 1
abbrev τ : Topo := Topo.v7x

variable {F : FTy → Type} [FloatOps F]
-- ==== Proof.Run.lean ====
/-
  The kernel's run, with the contents it leaves: every buffer of the TensorCore's own ends at the last of the
  contents the program's segments are folded through.
-/
module

public import proofs.«01_k».proof.Proof.Gen.KernelIdeal.Frame

@[expose] public section

set_option maxRecDepth 16384

noncomputable section

namespace Cert.Feat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates, and every buffer of a
    TensorCore's own ends at the fold's last contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c b hb => h c b hb)

end Cert.Feat
end
-- ==== Proof.Tile.lean ====
/-
  The gather kernel's body, one image at a time. The printed body is unrolled over the sixteen images of its
  block; here its operations are named once, as functions of one image's operands, and the block the body
  leaves is shown to be the sixteen tiles of those functions.
-/
module

public import proofs.«01_k».proof.Proof.Gen.KernelIdeal.Frame
public import Idealize.ShloMosaic.Lib.Pipeline.ValueKit

@[expose] public section

set_option maxRecDepth 16384

noncomputable section

namespace Cert.Feat

open Idealize.ShloMosaic Idealize.SL.Sem Cert.KernelIdeal Cert.KernelIdeal.Gen

variable {F : FTy → Type} [FloatOps F] [Named F]

/-- A row of normalised coordinates, in pixels: `((u + 1) * 32 - 1) * 0.5`. -/
def pix (u : FVec F S1x64 .f32) : FVec F S1x64 .f32 :=
  mulf (subf (mulf (addf u (broadcast S1x64 (Scalar.ofBits .f32 0x3F800000#32))) (broadcast S1x64 (Scalar.ofBits .f32 0x42000000#32)))
    (broadcast S1x64 (Scalar.ofBits .f32 0x3F800000#32))) (broadcast S1x64 (Scalar.ofBits .f32 0x3F000000#32))

/-- The rows of a row: the same 64 values on each of 32 lines. -/
def rowsF (w : FVec F S1x64 .f32) : FVec F S32x64 .f32 :=
  broadcastTo S32x64 (shapeCast S1x64 w shapeCasts_S1x64_S1x64) broadcasts_S1x64_S32x64

/-- The selection matrix of a row of pixel coordinates: line `f` has, for each joint, the weight of pixel `f`. -/
def selMat (x : FVec F S1x64 .f32) : FVec F S32x64 .f32 :=
  addf
    (select (cmpi .eq (iota .tc S32x64 32 [0] iota_S32x64_d0_w32) (broadcastTo S32x64 (fptosi 32 (floor x)) broadcasts_S1x64_S32x64))
      (rowsF (subf (broadcast S1x64 (Scalar.ofBits .f32 0x3F800000#32)) (subf x (floor x))))
      (broadcast S32x64 (Scalar.ofBits .f32 0x00000000#32)))
    (select (cmpi .eq (iota .tc S32x64 32 [0] iota_S32x64_d0_w32)
        (broadcastTo S32x64 (addi (fptosi 32 (floor x)) (broadcast S1x64 1#32)) broadcasts_S1x64_S32x64))
      (rowsF (subf x (floor x)))
      (broadcast S32x64 (Scalar.ofBits .f32 0x00000000#32)))

/-- The selection matrix of the image's lower sixteen lines, by line and column. -/
def wA (sy sx : FVec F S32x64 .f32) : FVec F S512x64 .f32 :=
  shapeCast S512x64 (mulf
    (broadcastTo S16x32x64 (shapeCast S16x1x64 (extractStridedSlice S16x64 ![16, 0] sy slices_S32x64_o16_0_S16x64) shapeCasts_S16x64_S16x1x64) broadcasts_S16x1x64_S16x32x64)
    (broadcastTo S16x32x64 (shapeCast S1x32x64 sx shapeCasts_S32x64_S1x32x64) broadcasts_S1x32x64_S16x32x64)) shapeCasts_S16x32x64_S512x64

/-- The selection matrix of the four lines above them. -/
def wB (sy sx : FVec F S32x64 .f32) : FVec F S128x64 .f32 :=
  shapeCast S128x64 (mulf
    (broadcastTo S4x32x64 (shapeCast S4x1x64 (extractStridedSlice S4x64 ![12, 0] sy slices_S32x64_o12_0_S4x64) shapeCasts_S4x64_S4x1x64) broadcasts_S4x1x64_S4x32x64)
    (broadcastTo S4x32x64 (shapeCast S1x32x64 sx shapeCasts_S32x64_S1x32x64) broadcasts_S1x32x64_S4x32x64)) shapeCasts_S4x32x64_S128x64

/-- One image's features at its 64 joints: the two parts of the image against the selection matrices. -/
def featMat (uv : Vec F S1x2x64 .f32) (a : Vec F S1x256x512 .f32) (b : Vec F S1x256x128 .f32) : FVec F S256x64 .f32 :=
  addf
    (matmul dot_S256x512_S512x64_S256x64_1_0_0_1_n_n none (shapeCast S256x512 a shapeCasts_S1x256x512_S256x512)
      (wA (selMat (pix (extractStridedSlice S1x64 ![1, 0] (shapeCast S2x64 uv shapeCasts_S1x2x64_S2x64) slices_S2x64_o1_0_S1x64)))
        (selMat (pix (extractStridedSlice S1x64 ![0, 0] (shapeCast S2x64 uv shapeCasts_S1x2x64_S2x64) slices_S2x64_o0_0_S1x64))))
      (constant S256x64 .f32 0x00000000#32))
    (matmul dot_S256x128_S128x64_S256x64_1_0_0_1_n_n none (shapeCast S256x128 b shapeCasts_S1x256x128_S256x128)
      (wB (selMat (pix (extractStridedSlice S1x64 ![1, 0] (shapeCast S2x64 uv shapeCasts_S1x2x64_S2x64) slices_S2x64_o1_0_S1x64)))
        (selMat (pix (extractStridedSlice S1x64 ![0, 0] (shapeCast S2x64 uv shapeCasts_S1x2x64_S2x64) slices_S2x64_o0_0_S1x64))))
      (constant S256x64 .f32 0x00000000#32))

/-- The features by joint: the matrix times the identity, contracted along the channels. -/
def featT (uv : Vec F S1x2x64 .f32) (a : Vec F S1x256x512 .f32) (b : Vec F S1x256x128 .f32) (e : Vec F S256x256 .f32) :
    FVec F S64x256 .f32 :=
  matmul dot_S256x64_S256x256_S64x256_0_0_1_1_n_n none (featMat uv a b) (shapeCast S256x256 e shapeCasts_S256x256_S256x256)
    (constant S64x256 .f32 0x00000000#32)

theorem slices_half (h : Fin 2) : S64x256.Slices ![32 * h.val, 0] S32x256 := by
  revert h; decide

/-- One hand's half of the 64 joints, as the block stores it. -/
def half (h : Fin 2) (t : FVec F S64x256 .f32) : FVec F S1x1x32x256 .f32 :=
  shapeCast S1x1x32x256 (extractStridedSlice S32x256 ![32 * h.val, 0] t (slices_half h)) shapeCasts_S32x256_S1x1x32x256

theorem inb_u (i : Fin 16) : ∀ a, (![i.val, 0, 0] : Fin 3 → ℕ) a + S1x2x64.size a ≤ S16x2x64.size a := by
  revert i; decide
theorem inb_a (i : Fin 16) : ∀ a, (![i.val, 0, 0] : Fin 3 → ℕ) a + S1x256x512.size a ≤ S16x256x512.size a := by
  revert i; decide
theorem inb_b (i : Fin 16) : ∀ a, (![i.val, 0, 0] : Fin 3 → ℕ) a + S1x256x128.size a ≤ S16x256x128.size a := by
  revert i; decide
theorem inb_o (h : Fin 2) (i : Fin 16) : ∀ a, (![h.val, i.val, 0, 0] : Fin 4 → ℕ) a + S1x1x32x256.size a ≤ S2x16x32x256.size a := by
  revert h i; decide

/-- Image `i`'s part of a block of coordinates, of the two image parts, and of the result. -/
def ru (i : Fin 16) : Rect S16x2x64 := Rect.unit (s := S16x2x64) ![i.val, 0, 0] S1x2x64.size (inb_u i)
def ra (i : Fin 16) : Rect S16x256x512 := Rect.unit (s := S16x256x512) ![i.val, 0, 0] S1x256x512.size (inb_a i)
def rb (i : Fin 16) : Rect S16x256x128 := Rect.unit (s := S16x256x128) ![i.val, 0, 0] S1x256x128.size (inb_b i)
def ro (h : Fin 2) (i : Fin 16) : Rect S2x16x32x256 :=
  Rect.unit (s := S2x16x32x256) ![h.val, i.val, 0, 0] S1x1x32x256.size (inb_o h i)

/-- Image `i`'s features by joint, from the blocks. -/
def tile (x0 : Vec F S16x2x64 .f32) (x1 : Vec F S16x256x512 .f32) (x2 : Vec F S16x256x128 .f32) (x3 : Vec F S256x256 .f32)
    (i : Fin 16) : FVec F S64x256 .f32 :=
  featT (View.ld x0 (ru i)) (View.ld x1 (ra i)) (View.ld x2 (rb i)) (View.ld x3 r0_3)

/-- The number of the store's hand and image, last store first. -/
def hd (k : Fin 32) : Fin 2 := ⟨1 - k.val % 2, by omega⟩
def im (k : Fin 32) : Fin 16 := ⟨15 - k.val / 2, by omega⟩

/-- The stores of the body: both hands of the sixteen images, last first. -/
def pieces (x0 : Vec F S16x2x64 .f32) (x1 : Vec F S16x256x512 .f32) (x2 : Vec F S16x256x128 .f32) (x3 : Vec F S256x256 .f32) :
    List (View.Piece (Elt F) S2x16x32x256 .f32) :=
  List.ofFn fun k : Fin 32 => (⟨ro (hd k) (im k), half (hd k) (tile x0 x1 x2 x3 (im k))⟩ : View.Piece (Elt F) S2x16x32x256 .f32)

set_option maxHeartbeats 4000000 in
/-- What the body leaves in its result block is the sixteen tiles, each hand's half in its place. -/
theorem out_eq (x0 : Vec F S16x2x64 .f32) (x1 : Vec F S16x256x512 .f32) (x2 : Vec F S16x256x128 .f32) (x3 : Vec F S256x256 .f32) :
    out0_4 x0 x1 x2 x3 = View.canon (pieces x0 x1 x2 x3) := by
  rfl

end Cert.Feat
end
-- ==== Proof.Consts.lean ====
/-
  The values, as extended reals, of the constants both programs spell.
-/
module

public import Idealize.ShloMosaic.PureOps.Ideal

@[expose] public section

noncomputable section

namespace Cert.Feat

open Idealize.ShloMosaic

/-- The pattern of 32. -/
theorem bits_32 : Ideal.ofBits .f32 0x42000000#32 = ((32 : ℝ) : EReal) := by
  simp [Ideal.ofBits, Ideal.ieee, -EReal.coe_mul]; norm_num
/-- The pattern of one half. -/
theorem bits_half : Ideal.ofBits .f32 0x3F000000#32 = ((1 / 2 : ℝ) : EReal) := by
  simp [Ideal.ofBits, Ideal.ieee, -EReal.coe_mul]; norm_num
/-- The pattern of 2. -/
theorem bits_2 : Ideal.ofBits .f32 0x40000000#32 = ((2 : ℝ) : EReal) := by
  simp [Ideal.ofBits, Ideal.ieee, -EReal.coe_mul]; norm_num
/-- The pattern of 31. -/
theorem bits_31 : Ideal.ofBits .f32 0x41F80000#32 = ((31 : ℝ) : EReal) := by
  simp [Ideal.ofBits, Ideal.ieee, -EReal.coe_mul]; norm_num
/-- The pattern of 2688, the number of a channel's values. -/
theorem bits_2688 : Ideal.ofBits .f32 0x45280000#32 = ((2688 : ℝ) : EReal) := by
  simp [Ideal.ofBits, Ideal.ieee, -EReal.coe_mul]; norm_num
/-- The pattern of plus infinity. -/
theorem bits_top : Ideal.ofBits .f32 0x7F800000#32 = ⊤ := by
  simp [Ideal.ofBits, Ideal.ieee]
/-- The pattern both programs add to a variance, as a real. -/
def eps : ℝ := (10995116 : ℝ) / 2 ^ 40
theorem eps_pos : 0 < eps := by unfold eps; positivity
theorem bits_eps : Ideal.ofBits .f32 0x3727C5AC#32 = ((eps : ℝ) : EReal) := by
  simp [Ideal.ofBits, Ideal.ieee, -EReal.coe_mul, eps]; norm_num

end Cert.Feat
end
-- ==== Proof.Spec.lean ====
/-
  The mathematics of a joint's features: the bilinear weight a pixel has for a position, the two ways of
  computing with it, and the identities between sums that the two programs differ by.
-/
module

public import proofs.«01_k».proof.Proof.Consts

@[expose] public section

noncomputable section

namespace Cert.Feat

open Idealize.ShloMosaic

/-- A sum of reals, as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A normalised coordinate, in pixels. -/
def px (u : EReal) : EReal := ((u + 1) * ((32 : ℝ) : EReal) - 1) * ((1 / 2 : ℝ) : EReal)

/-- The bilinear weight of pixel `f` for position `x`; an infinite position has none. -/
def wt : EReal → ℕ → ℝ
  | ⊥, _ => 0
  | ⊤, _ => 0
  | (r : ℝ), f => (if ⌊r⌋ = (f : ℤ) then 1 - (r - ⌊r⌋) else 0) + (if ⌊r⌋ + 1 = (f : ℤ) then r - ⌊r⌋ else 0)

@[simp] theorem wt_bot (f : ℕ) : wt ⊥ f = 0 := rfl
@[simp] theorem wt_top (f : ℕ) : wt ⊤ f = 0 := rfl
theorem wt_coe (r : ℝ) (f : ℕ) :
    wt (r : EReal) f = (if ⌊r⌋ = (f : ℤ) then 1 - (r - ⌊r⌋) else 0) + (if ⌊r⌋ + 1 = (f : ℤ) then r - ⌊r⌋ else 0) := rfl

/-- A finite normalised coordinate's pixel position. -/
theorem px_coe (v : ℝ) : px (v : EReal) = (((v + 1) * 32 - 1) * (1 / 2) : ℝ) := by
  unfold px; push_cast; rfl
theorem px_top : px ⊤ = ⊤ := by
  unfold px
  rw [EReal.top_add_of_ne_bot (by decide), EReal.top_mul_coe_of_pos (by norm_num), show ((⊤ : EReal) - 1) = ⊤ from rfl,
    EReal.top_mul_coe_of_pos (by norm_num)]

/-- A coordinate that is not negative lies in the image's lower half: the twelve first pixels have no weight. -/
theorem wt_px_zero (v : EReal) (hv : 0 ≤ v) (f : ℕ) (hf : f < 12) : wt (px v) f = 0 := by
  induction v using EReal.rec with
  | bot => exact absurd hv (by decide)
  | top => rw [px_top]; rfl
  | coe v =>
    rw [px_coe, wt_coe]
    have h0 : (0 : ℝ) ≤ v := by exact_mod_cast hv
    have h1 : (15 : ℤ) ≤ ⌊((v + 1) * 32 - 1) * (1 / 2)⌋ := by
      rw [Int.le_floor]; push_cast; linarith
    rw [if_neg (by omega), if_neg (by omega), add_zero]

/-- Integer `z`, wrapped to a 32-bit word, is the word of a small natural only when it is that natural. -/
theorem ofNat_eq_ofInt (f : ℕ) (hf : f < 32) (z : ℤ) (h0 : -2147483648 ≤ z) (h1 : z ≤ 2147483648) :
    (BitVec.ofNat 32 f = BitVec.ofInt 32 z) ↔ z = f := by
  rw [← BitVec.toInt_inj, BitVec.toInt_ofInt, BitVec.toInt_ofNat']
  simp only [Int.bmod_def]
  norm_num
  omega

/-- The integer a float converts to: its whole part, clamped to the 32-bit range. -/
def clampI (x : EReal) : ℤ := Ideal.toIntClamped (-2147483648) 2147483647 x

theorem fptosi_eq (x : EReal) : FloatOps.fptosi (F := Ideal) (φ := .f32) 32 x = BitVec.ofInt 32 (clampI x) := rfl

theorem clampI_int (z : ℤ) : clampI (((z : ℤ) : ℝ) : EReal) = max (-2147483648) (min 2147483647 z) := by
  unfold clampI
  simp

theorem clampI_bounds (x : EReal) : -2147483648 ≤ clampI x ∧ clampI x ≤ 2147483647 := by
  unfold clampI
  induction x using EReal.rec with
  | bot => simp
  | top => simp
  | coe r => rw [Ideal.toIntClamped_coe]; omega

/-- The weight the kernel's comparison matrices put on line `f`. -/
theorem sel_eq (x : EReal) (f : ℕ) (hf : f < 32) :
    Scalar.select (IntOp.cmpi .eq (BitVec.ofNat 32 f) (FloatOps.fptosi (F := Ideal) (φ := .f32) 32 (Ideal.liftRound Int.floor x)))
        (1 - (x - Ideal.liftRound Int.floor x)) (0 : EReal)
      + Scalar.select (IntOp.cmpi .eq (BitVec.ofNat 32 f)
          (IntOp.addi (FloatOps.fptosi (F := Ideal) (φ := .f32) 32 (Ideal.liftRound Int.floor x)) 1#32))
        (x - Ideal.liftRound Int.floor x) 0
      = ((wt x f : ℝ) : EReal) := by
  have hadd : ∀ z : ℤ, IntOp.addi (BitVec.ofInt 32 z) 1#32 = BitVec.ofInt 32 (z + 1) := fun z => by
    show BitVec.ofInt 32 z + 1#32 = _
    rw [BitVec.ofInt_add]; rfl
  rw [fptosi_eq, hadd]
  have hsel : ∀ (z : ℤ) (_ : -2147483648 ≤ z) (_ : z ≤ 2147483648) (a : EReal),
      Scalar.select (IntOp.cmpi .eq (BitVec.ofNat 32 f) (BitVec.ofInt 32 z)) a 0 = if z = f then a else 0 := by
    intro z h0 h1 a
    have := ofNat_eq_ofInt f hf z h0 h1
    unfold IntOp.cmpi Scalar.select
    by_cases hz : z = f
    · simp [hz]
    · have hb : (BitVec.ofNat 32 f == BitVec.ofInt 32 z) = false := by
        rw [beq_eq_false_iff_ne]; exact this.not.mpr hz
      simp [hb, hz]
  have hc := clampI_bounds (Ideal.liftRound Int.floor x)
  have hbot : clampI (Ideal.liftRound Int.floor ⊥) = -2147483648 := Ideal.toIntClamped_bot ..
  have htop : clampI (Ideal.liftRound Int.floor ⊤) = 2147483647 := Ideal.toIntClamped_top ..
  rw [hsel _ hc.1 (by omega), hsel _ (by omega) (by omega)]
  induction x using EReal.rec with
  | bot => rw [wt_bot, hbot, if_neg (by omega), if_neg (by omega)]; simp
  | top => rw [wt_top, htop, if_neg (by omega), if_neg (by omega)]; simp
  | coe r =>
    rw [wt_coe]
    have h2 : Ideal.liftRound Int.floor ((r : ℝ) : EReal) = (((⌊r⌋ : ℤ) : ℝ) : EReal) := rfl
    rw [h2, clampI_int]
    simp only [show (max (-2147483648) (min 2147483647 ⌊r⌋) = (f : ℤ)) ↔ ⌊r⌋ = f from by omega,
      show (max (-2147483648) (min 2147483647 ⌊r⌋) + 1 = (f : ℤ)) ↔ ⌊r⌋ + 1 = f from by omega]
    rw [EReal.coe_add]
    congr 1 <;> split_ifs <;> simp only [EReal.coe_sub, EReal.coe_one, EReal.coe_zero]

/-- A sum over a flattened image is a sum over its lines and columns. -/
theorem sum_flat {M : Type*} [AddCommMonoid M] (n : ℕ) (F : Fin n → Fin 32 → M) :
    ∑ x : Fin (n * 32), F ⟨x.val / 32, by omega⟩ ⟨x.val % 32, by omega⟩ = ∑ r, ∑ q, F r q := by
  rw [← Fintype.sum_prod_type', ← Equiv.sum_comp finProdFinEquiv]
  refine Finset.sum_congr rfl fun p _ => ?_
  congr 1 <;> refine Fin.ext ?_ <;> simp [finProdFinEquiv] <;> omega

/-- The lower sixteen lines and the four above make the whole image when the others have no weight. -/
theorem sum_lower (F : Fin 32 → Fin 32 → ℝ) (h : ∀ r : Fin 32, r.val < 12 → ∀ q, F r q = 0) :
    (∑ x : Fin 512, F ⟨16 + x.val / 32, by omega⟩ ⟨x.val % 32, by omega⟩)
      + (∑ x : Fin 128, F ⟨12 + x.val / 32, by omega⟩ ⟨x.val % 32, by omega⟩) = ∑ r, ∑ q, F r q := by
  rw [show (∑ x : Fin 512, F ⟨16 + x.val / 32, by omega⟩ ⟨x.val % 32, by omega⟩) = _ from
      sum_flat 16 fun r q => F ⟨16 + r.val, by omega⟩ q,
    show (∑ x : Fin 128, F ⟨12 + x.val / 32, by omega⟩ ⟨x.val % 32, by omega⟩) = _ from
      sum_flat 4 fun r q => F ⟨12 + r.val, by omega⟩ q]
  rw [show (∑ r, ∑ q, F r q) = ∑ r : Fin (12 + (4 + 16)), ∑ q, F r q from rfl, Fin.sum_univ_add, Fin.sum_univ_add]
  rw [Finset.sum_eq_zero (s := (Finset.univ : Finset (Fin 12))) fun r _ => Finset.sum_eq_zero fun q _ => h _ (by simp) q, zero_add, add_comm]
  congr 1

/-- The whole number nearest to a position that is inside the image. -/
def clipN (e : EReal) : ℕ := (clampI (min ((31 : ℝ) : EReal) (max 0 e))).toNat

theorem clip_bounds (e : EReal) : 0 ≤ clampI (min ((31 : ℝ) : EReal) (max 0 e)) ∧ clampI (min ((31 : ℝ) : EReal) (max 0 e)) ≤ 31 := by
  induction e using EReal.rec with
  | bot => rw [max_eq_left bot_le, min_eq_right (by norm_num : (0 : EReal) ≤ ((31 : ℝ) : EReal)),
             show (0 : EReal) = (((0 : ℤ) : ℝ) : EReal) by simp, clampI_int]; decide
  | top => rw [max_eq_right le_top, min_eq_left le_top, show ((31 : ℝ) : EReal) = (((31 : ℤ) : ℝ) : EReal) by norm_num, clampI_int]; decide
  | coe r =>
    have h : min ((31 : ℝ) : EReal) (max 0 (r : EReal)) = ((min 31 (max 0 r) : ℝ) : EReal) := by
      rw [← EReal.coe_zero, EReal.coe_strictMono.monotone.map_min, EReal.coe_strictMono.monotone.map_max]
    rw [h]
    unfold clampI
    rw [Ideal.toIntClamped_coe, if_pos (by positivity)]
    have h1 : 0 ≤ ⌊min 31 (max 0 r)⌋ := Int.floor_nonneg.mpr (by positivity)
    have h2 : ⌊min 31 (max 0 r)⌋ ≤ 31 := by
      rw [← Int.lt_add_one_iff, Int.floor_lt]; push_cast
      exact lt_of_le_of_lt (min_le_left _ _) (by norm_num)
    omega

theorem clipN_lt (e : EReal) : clipN e < 32 := by have := clip_bounds e; unfold clipN; omega
theorem clipN_cast (e : EReal) : ((clipN e : ℕ) : ℤ) = clampI (min ((31 : ℝ) : EReal) (max 0 e)) := by
  have := clip_bounds e; unfold clipN; omega
theorem clipN_int (n : ℤ) (h0 : 0 ≤ n) (h1 : n ≤ 31) : (clipN (((n : ℤ) : ℝ) : EReal) : ℤ) = n := by
  rw [clipN_cast]
  have h : min ((31 : ℝ) : EReal) (max 0 (((n : ℤ) : ℝ) : EReal)) = (((n : ℤ) : ℝ) : EReal) := by
    rw [max_eq_right (by exact_mod_cast h0), min_eq_right (by exact_mod_cast h1)]
  rw [h, clampI_int]; omega

/-- The pixel, as an index, nearest to a position. -/
abbrev clipF (e : EReal) : Fin 32 := ⟨clipN e, clipN_lt e⟩

/-- One tap: an image's value at the nearest pixel, times the weight, times whether the position is inside. -/
def tapV (g : Fin 32 → Fin 32 → ℝ) (ix iy w : EReal) : EReal :=
  (g (clipF iy) (clipF ix) : EReal) * (w * if 0 ≤ ix ∧ ix ≤ ((31 : ℝ) : EReal) ∧ 0 ≤ iy ∧ iy ≤ ((31 : ℝ) : EReal) then 1 else 0)

/-- A tap at a whole position is the sum over the image that picks that position out. -/
theorem tapV_int (g : Fin 32 → Fin 32 → ℝ) (n k : ℤ) (β α : ℝ) :
    tapV g (((n : ℤ) : ℝ) : EReal) (((k : ℤ) : ℝ) : EReal) ((β * α : ℝ) : EReal)
      = ((∑ r : Fin 32, ∑ q : Fin 32, g r q * ((if k = (r.val : ℤ) then α else 0) * (if n = (q.val : ℤ) then β else 0)) : ℝ) : EReal) := by
  have hr : ∀ z : ℤ, (0 ≤ (((z : ℤ) : ℝ) : EReal) ∧ (((z : ℤ) : ℝ) : EReal) ≤ ((31 : ℝ) : EReal)) ↔ (0 ≤ z ∧ z ≤ 31) := by
    intro z
    constructor
    · rintro ⟨a, b⟩; exact ⟨by exact_mod_cast a, by exact_mod_cast b⟩
    · rintro ⟨a, b⟩; exact ⟨by exact_mod_cast a, by exact_mod_cast b⟩
  have hn := hr n
  have hk := hr k
  unfold tapV
  by_cases h : (0 ≤ n ∧ n ≤ 31) ∧ (0 ≤ k ∧ k ≤ 31)
  · rw [if_pos ⟨(hn.mpr h.1).1, (hn.mpr h.1).2, hk.mpr h.2⟩, mul_one, ← EReal.coe_mul]
    have hcn := clipN_int n h.1.1 h.1.2
    have hck := clipN_int k h.2.1 h.2.2
    rw [Finset.sum_eq_single (clipF (((k : ℤ) : ℝ) : EReal)), Finset.sum_eq_single (clipF (((n : ℤ) : ℝ) : EReal))]
    · rw [if_pos hck.symm, if_pos hcn.symm, mul_comm α β]
    · intro q _ hq
      rw [if_neg (fun e => hq (Fin.ext (by have : (q.val : ℤ) = clipN (((n : ℤ) : ℝ) : EReal) := by omega
                                           exact_mod_cast this)) : ¬ n = (q.val : ℤ)), mul_zero, mul_zero]
    · intro h; exact absurd (Finset.mem_univ _) h
    · intro r _ hr
      rw [if_neg (fun e => hr (Fin.ext (by have : (r.val : ℤ) = clipN (((k : ℤ) : ℝ) : EReal) := by omega
                                           exact_mod_cast this)) : ¬ k = (r.val : ℤ))]
      simp
    · intro h; exact absurd (Finset.mem_univ _) h
  · rw [if_neg (fun h' => h ⟨hn.mp ⟨h'.1, h'.2.1⟩, hk.mp h'.2.2⟩), mul_zero, mul_zero]
    rw [Finset.sum_eq_zero, EReal.coe_zero]
    intro r _
    refine Finset.sum_eq_zero fun q _ => ?_
    by_cases hrk : k = (r.val : ℤ)
    · rw [if_neg (show ¬ n = (q.val : ℤ) from fun e => h (by omega)), mul_zero, mul_zero]
    · rw [if_neg hrk, zero_mul, mul_zero]

/-- A tap outside on the horizontal axis is nothing. -/
theorem tapV_out_x (g : Fin 32 → Fin 32 → ℝ) (ix iy w : EReal) (h : ¬ (0 ≤ ix ∧ ix ≤ ((31 : ℝ) : EReal))) : tapV g ix iy w = 0 := by
  unfold tapV; rw [if_neg (fun h' => h ⟨h'.1, h'.2.1⟩), mul_zero, mul_zero]
/-- A tap outside on the vertical axis is nothing. -/
theorem tapV_out_y (g : Fin 32 → Fin 32 → ℝ) (ix iy w : EReal) (h : ¬ (0 ≤ iy ∧ iy ≤ ((31 : ℝ) : EReal))) : tapV g ix iy w = 0 := by
  unfold tapV; rw [if_neg (fun h' => h h'.2.2), mul_zero, mul_zero]

/-- The four taps together weigh every pixel by its bilinear weights, whatever the position. -/
theorem taps_eq (g : Fin 32 → Fin 32 → ℝ) (x y : EReal) :
    tapV g (Ideal.liftRound Int.floor x) (Ideal.liftRound Int.floor y)
        ((Ideal.liftRound Int.floor x + 1 - x) * (Ideal.liftRound Int.floor y + 1 - y))
      + tapV g (Ideal.liftRound Int.floor x) (Ideal.liftRound Int.floor y + 1)
        ((Ideal.liftRound Int.floor x + 1 - x) * (y - Ideal.liftRound Int.floor y))
      + tapV g (Ideal.liftRound Int.floor x + 1) (Ideal.liftRound Int.floor y)
        ((x - Ideal.liftRound Int.floor x) * (Ideal.liftRound Int.floor y + 1 - y))
      + tapV g (Ideal.liftRound Int.floor x + 1) (Ideal.liftRound Int.floor y + 1)
        ((x - Ideal.liftRound Int.floor x) * (y - Ideal.liftRound Int.floor y))
      = ((∑ r : Fin 32, ∑ q : Fin 32, g r q * (wt y r.val * wt x q.val) : ℝ) : EReal) := by
  have hb : Ideal.liftRound Int.floor ⊥ = ⊥ := rfl
  have ht : Ideal.liftRound Int.floor ⊤ = ⊤ := rfl
  have nb : ¬ (0 ≤ (⊥ : EReal) ∧ (⊥ : EReal) ≤ ((31 : ℝ) : EReal)) := fun h => absurd h.1 (by decide)
  have nt : ¬ (0 ≤ (⊤ : EReal) ∧ (⊤ : EReal) ≤ ((31 : ℝ) : EReal)) := fun h => absurd (top_le_iff.mp h.2) (EReal.coe_ne_top _)
  have tb : (⊥ : EReal) + 1 = ⊥ := rfl
  have tt : (⊤ : EReal) + 1 = ⊤ := rfl
  induction x using EReal.rec with
  | bot => simp [hb, tb, tapV_out_x _ _ _ _ nb]
  | top => simp [ht, tt, tapV_out_x _ _ _ _ nt]
  | coe a =>
    induction y using EReal.rec with
    | bot => simp [hb, tb, tapV_out_y _ _ _ _ nb]
    | top => simp [ht, tt, tapV_out_y _ _ _ _ nt]
    | coe b =>
      have hf : ∀ r : ℝ, Ideal.liftRound Int.floor ((r : ℝ) : EReal) = (((⌊r⌋ : ℤ) : ℝ) : EReal) := fun _ => rfl
      have h1 : ∀ r : ℝ, (((⌊r⌋ : ℤ) : ℝ) : EReal) + 1 = (((⌊r⌋ + 1 : ℤ) : ℝ) : EReal) := fun r => by push_cast; rfl
      rw [hf, hf, h1, h1]
      simp only [← EReal.coe_sub, ← EReal.coe_mul]
      rw [tapV_int, tapV_int, tapV_int, tapV_int]
      simp only [← EReal.coe_add, ← Finset.sum_add_distrib, wt_coe]
      congr 1
      refine Finset.sum_congr rfl fun r _ => Finset.sum_congr rfl fun q _ => ?_
      push_cast
      split_ifs <;> ring

/-! ## The layers and the normalisation -/

/-- A hand's features of image `b`, channel `ch`, joint `j`: every pixel times its bilinear weights. -/
def featR (g : Fin 128 → Fin 256 → Fin 32 → Fin 32 → ℝ) (uv : Fin 128 → Fin 21 → Fin 2 → EReal) (b : Fin 128) (ch : Fin 256) (j : Fin 21) : ℝ :=
  ∑ r : Fin 32, ∑ q : Fin 32, g b ch r q * (wt (px (uv b j 1)) r.val * wt (px (uv b j 0)) q.val)

/-- The first layer. -/
def hidR (f : Fin 128 → Fin 256 → Fin 21 → ℝ) (w : Fin 128 → Fin 256 → ℝ) (b1 : Fin 128 → ℝ) (b c : Fin 128) (j : Fin 21) : ℝ :=
  ∑ ch, f b ch j * w c ch + b1 c

/-- A channel's mean over the images and joints. -/
def meanR (h : Fin 128 → Fin 128 → Fin 21 → ℝ) (c : Fin 128) : ℝ := (∑ b, ∑ j, h b c j) * (1 / 2688)

/-- A channel's variance: the mean square less the squared mean. -/
def varR (h : Fin 128 → Fin 128 → Fin 21 → ℝ) (c : Fin 128) : ℝ := (∑ b, ∑ j, h b c j * h b c j) * (1 / 2688) - meanR h c * meanR h c

/-- The mean squared distance from the mean is that variance. -/
theorem var_centred (h : Fin 128 → Fin 128 → Fin 21 → ℝ) (c : Fin 128) :
    (∑ b, ∑ j, (h b c j - meanR h c) * (h b c j - meanR h c)) * (1 / 2688) = varR h c := by
  have h1 : ∀ b j, (h b c j - meanR h c) * (h b c j - meanR h c)
      = h b c j * h b c j - 2 * meanR h c * h b c j + meanR h c * meanR h c := fun b j => by ring
  simp only [h1, Finset.sum_add_distrib, Finset.sum_sub_distrib, ← Finset.mul_sum]
  have h2 : (∑ b, ∑ j, h b c j) = meanR h c * 2688 := by unfold meanR; ring
  rw [h2]
  unfold varR
  simp
  ring

theorem var_nonneg (h : Fin 128 → Fin 128 → Fin 21 → ℝ) (c : Fin 128) : 0 ≤ varR h c := by
  rw [← var_centred]
  exact mul_nonneg (Finset.sum_nonneg fun b _ => Finset.sum_nonneg fun j _ => mul_self_nonneg _) (by norm_num)

/-- The normalised and rectified first layer. -/
def actV (h : Fin 128 → Fin 128 → Fin 21 → ℝ) (g be : Fin 128 → EReal) (b c : Fin 128) (j : Fin 21) : EReal :=
  max ((((h b c j - meanR h c) * (√(varR h c + eps))⁻¹ : ℝ) : EReal) * g c + be c) 0

/-- The second layer. -/
def outV (h : Fin 128 → Fin 128 → Fin 21 → ℝ) (g be : Fin 128 → EReal) (w2 : Fin 128 → Fin 128 → EReal) (b2 : Fin 128 → EReal)
    (b : Fin 128) (j : Fin 21) (o : Fin 128) : EReal :=
  ∑ k, actV h g be b k j * w2 o k + b2 o

theorem std_pos (h : Fin 128 → Fin 128 → Fin 21 → ℝ) (c : Fin 128) : 0 < varR h c + eps := add_pos_of_nonneg_of_pos (var_nonneg h c) eps_pos

/-- Dividing by the standard deviation. -/
theorem div_std (h : Fin 128 → Fin 128 → Fin 21 → ℝ) (c : Fin 128) (x : ℝ) :
    Ideal.div (x : EReal) (Ideal.sqrt (((varR h c : ℝ) : EReal) + ((eps : ℝ) : EReal))) = ((x * (√(varR h c + eps))⁻¹ : ℝ) : EReal) := by
  have hp := std_pos h c
  rw [← EReal.coe_add, show Ideal.sqrt ((varR h c + eps : ℝ) : EReal) = if varR h c + eps < 0 then ⊥ else ((√(varR h c + eps) : ℝ) : EReal) from rfl,
    if_neg (not_lt.mpr hp.le), Ideal.div_coe (Real.sqrt_pos.mpr hp).ne', one_div, EReal.coe_mul]

/-- Multiplying by the reciprocal standard deviation. -/
theorem mul_rstd (h : Fin 128 → Fin 128 → Fin 21 → ℝ) (c : Fin 128) (x : ℝ) :
    (x : EReal) * Ideal.rsqrt (((varR h c : ℝ) : EReal) + ((eps : ℝ) : EReal)) = ((x * (√(varR h c + eps))⁻¹ : ℝ) : EReal) := by
  have hp := std_pos h c
  rw [← EReal.coe_add, show Ideal.rsqrt ((varR h c + eps : ℝ) : EReal) = if varR h c + eps < 0 then ⊥ else
      if varR h c + eps = 0 then ⊤ else (((√(varR h c + eps))⁻¹ : ℝ) : EReal) from rfl,
    if_neg (not_lt.mpr hp.le), if_neg hp.ne', EReal.coe_mul]

end Cert.Feat
end
-- ==== Proof.Region0.lean ====
/-
  The gather kernel's result array: at every hand, image, joint and channel, the weighted sum of the image's pixels.
-/
module

public import proofs.«01_k».proof.Proof.Tile
public import proofs.«01_k».proof.Proof.Spec
public import Idealize.ShloMosaic.Lib.Pointwise

@[expose] public section

set_option maxRecDepth 16384

noncomputable section

namespace Cert.Feat

open Idealize.ShloMosaic Idealize.SL.Sem Cert.KernelIdeal Cert.KernelIdeal.Gen
open Idealize.ShloMosaic.Pipeline (Dat)

/-- Pixel coordinates, read at a joint. -/
theorem pix_apply (u : FVec Ideal S1x64 .f32) (j : Fin 64) : pix u (ix2 0 j) = px (u (ix2 0 j)) := by
  pointwise [pix]
  rw [bits_32, bits_half]
  rfl

/-- The selection matrix, read at a line and a joint: the bilinear weight. -/
theorem selMat_apply (x : FVec Ideal S1x64 .f32) (f : Fin 32) (j : Fin 64) :
    selMat x (ix2 f j) = ((wt (x (ix2 0 j)) f.val : ℝ) : EReal) := by
  pointwise [selMat, rowsF]
  exact sel_eq _ _ f.isLt

/-- One channel of one image at one joint: the lower lines' pixels and the four lines' above, each times its weights. -/
def fmV (u v : EReal) (A : Fin 512 → EReal) (B : Fin 128 → EReal) : EReal :=
  (∑ x : Fin 512, A x * (((wt (px v) (16 + x.val / 32) : ℝ) : EReal) * ((wt (px u) (x.val % 32) : ℝ) : EReal)))
    + ∑ x : Fin 128, B x * (((wt (px v) (12 + x.val / 32) : ℝ) : EReal) * ((wt (px u) (x.val % 32) : ℝ) : EReal))

/-- One image's features, read at a channel and a joint. -/
theorem featMat_apply (uv : Vec Ideal S1x2x64 .f32) (a : Vec Ideal S1x256x512 .f32) (b : Vec Ideal S1x256x128 .f32) (ch : Fin 256) (j : Fin 64) :
    featMat uv a b (ix2 ch j)
      = fmV (uv (ix3 0 0 j)) (uv (ix3 0 1 j)) (fun x => a (ix3 0 ch x)) (fun x => b (ix3 0 ch x)) := by
  pointwise [featMat, wA, wB]
  simp only [selMat_apply, pix_apply]
  pointwise
  rfl

/-- The same by joint: against the matrix it is multiplied by. -/
theorem featT_apply (uv : Vec Ideal S1x2x64 .f32) (a : Vec Ideal S1x256x512 .f32) (b : Vec Ideal S1x256x128 .f32)
    (e : Vec Ideal S256x256 .f32) (ch : Fin 256) (j : Fin 64) :
    featT uv a b e (ix2 j ch)
      = ∑ x : Fin 256, fmV (uv (ix3 0 0 j)) (uv (ix3 0 1 j)) (fun p => a (ix3 0 x p)) (fun p => b (ix3 0 x p)) * e (ix2 x ch) := by
  pointwise [featT]
  simp only [featMat_apply]

/-- The number of a hand's joint among the 64. -/
abbrev jt (h : Fin 2) (j : Fin 32) : Fin 64 := ⟨32 * h.val + j.val, by omega⟩

/-- A hand's half, read at an index of the stored block. -/
theorem half_apply (h : Fin 2) (t : FVec Ideal S64x256 .f32) (x : S1x1x32x256.Idx) :
    half h t x = t (ix2 (jt h (x 2)) (x 3)) := by
  pointwise [half]

/-- An image's tile, read at a joint and a channel, from the blocks. -/
theorem tile_apply (x0 : Vec Ideal S16x2x64 .f32) (x1 : Vec Ideal S16x256x512 .f32) (x2 : Vec Ideal S16x256x128 .f32) (x3 : Vec Ideal S256x256 .f32)
    (i : Fin 16) (j : Fin 64) (ch : Fin 256) :
    tile x0 x1 x2 x3 i (ix2 j ch)
      = ∑ x : Fin 256, fmV (x0 (ix3 i 0 j)) (x0 (ix3 i 1 j)) (fun p => x1 (ix3 i x p)) (fun p => x2 (ix3 i x p)) * x3 (ix2 x ch) := by
  have hu : ∀ t k, View.ld x0 (ru i) (ix3 0 t k) = x0 (ix3 i t k) := fun t k => by
    show x0 _ = _
    refine congrArg x0 (funext fun a => Fin.ext ?_)
    match a with
    | ⟨0, _⟩ => exact (ValueKit.rect_emb_unit_val _ _ _ _ _).trans (by simp [ix3])
    | ⟨1, _⟩ => exact (ValueKit.rect_emb_unit_val _ _ _ _ _).trans (by simp [ix3])
    | ⟨2, _⟩ => exact (ValueKit.rect_emb_unit_val _ _ _ _ _).trans (by simp [ix3])
  have ha : ∀ t k, View.ld x1 (ra i) (ix3 0 t k) = x1 (ix3 i t k) := fun t k => by
    show x1 _ = _
    refine congrArg x1 (funext fun a => Fin.ext ?_)
    match a with
    | ⟨0, _⟩ => exact (ValueKit.rect_emb_unit_val _ _ _ _ _).trans (by simp [ix3])
    | ⟨1, _⟩ => exact (ValueKit.rect_emb_unit_val _ _ _ _ _).trans (by simp [ix3])
    | ⟨2, _⟩ => exact (ValueKit.rect_emb_unit_val _ _ _ _ _).trans (by simp [ix3])
  have hb : ∀ t k, View.ld x2 (rb i) (ix3 0 t k) = x2 (ix3 i t k) := fun t k => by
    show x2 _ = _
    refine congrArg x2 (funext fun a => Fin.ext ?_)
    match a with
    | ⟨0, _⟩ => exact (ValueKit.rect_emb_unit_val _ _ _ _ _).trans (by simp [ix3])
    | ⟨1, _⟩ => exact (ValueKit.rect_emb_unit_val _ _ _ _ _).trans (by simp [ix3])
    | ⟨2, _⟩ => exact (ValueKit.rect_emb_unit_val _ _ _ _ _).trans (by simp [ix3])
  have he : ∀ x : Fin 256, View.ld x3 r0_3 (ix2 x ch) = x3 (ix2 x ch) := fun x =>
    congrFun (View.ld_unit_lit inb_S256x256_S256x256_0_0 x3 (by decide)) _
  show featT _ _ _ _ _ = _
  refine (featT_apply _ _ _ _ ch j).trans ?_
  simp only [hu, ha, hb, he]

/-- The block the gather body leaves, read at an index. -/
theorem out_apply (x0 : Vec Ideal S16x2x64 .f32) (x1 : Vec Ideal S16x256x512 .f32) (x2 : Vec Ideal S16x256x128 .f32) (x3 : Vec Ideal S256x256 .f32)
    (y : S2x16x32x256.Idx) :
    out0_4 x0 x1 x2 x3 y = tile x0 x1 x2 x3 (y 1) (ix2 (jt (y 0) (y 2)) (y 3)) := by
  rw [out_eq]
  have hro : ∀ (h : Fin 2) (i : Fin 16) (x : S1x1x32x256.Idx), (ro h i).emb x = ix4 h i (x 2) (x 3) := fun h i x => by
    funext a; refine Fin.ext ?_
    have h0 : (x 0).val < 1 := (x 0).isLt
    have h1 : (x 1).val < 1 := (x 1).isLt
    match a with
    | ⟨0, _⟩ => exact (ValueKit.rect_emb_unit_val _ _ _ _ _).trans (by show (![h.val, i.val, 0, 0] : Fin 4 → ℕ) 0 + (x 0).val = (ix4 h i (x 2) (x 3) 0).val; simp [ix4])
    | ⟨1, _⟩ => exact (ValueKit.rect_emb_unit_val _ _ _ _ _).trans (by show (![h.val, i.val, 0, 0] : Fin 4 → ℕ) 1 + (x 1).val = (ix4 h i (x 2) (x 3) 1).val; simp [ix4])
    | ⟨2, _⟩ => exact (ValueKit.rect_emb_unit_val _ _ _ _ _).trans (by show (![h.val, i.val, 0, 0] : Fin 4 → ℕ) 2 + (x 2).val = (ix4 h i (x 2) (x 3) 2).val; simp [ix4])
    | ⟨3, _⟩ => exact (ValueKit.rect_emb_unit_val _ _ _ _ _).trans (by show (![h.val, i.val, 0, 0] : Fin 4 → ℕ) 3 + (x 3).val = (ix4 h i (x 2) (x 3) 3).val; simp [ix4])
  refine View.canon_apply_of_pieces (Val := Elt Ideal) (e := .f32)
    (fun y : S2x16x32x256.Idx => tile x0 x1 x2 x3 (y 1) (ix2 (jt (y 0) (y 2)) (y 3))) _ ?_ y ?_
  · intro p hp x
    obtain ⟨k, rfl⟩ := (List.mem_ofFn' _ _).mp hp
    exact (half_apply _ _ x).trans (congrArg (fun y : S2x16x32x256.Idx => tile x0 x1 x2 x3 (y 1) (ix2 (jt (y 0) (y 2)) (y 3)))
      (hro (hd k) (im k) x)).symm
  · have h0 : (y 0).val < 2 := (y 0).isLt
    have h1 : (y 1).val < 16 := (y 1).isLt
    have h2 : (y 2).val < 32 := (y 2).isLt
    have h3 : (y 3).val < 256 := (y 3).isLt
    refine ⟨_, (List.mem_ofFn' _ _).mpr ⟨⟨2 * (15 - (y 1).val) + (1 - (y 0).val), by omega⟩, rfl⟩, (Rect.mem_set_unit (inb := inb_o _ _)).mpr fun a => ?_⟩
    match a with
    | ⟨0, _⟩ => show 1 - (2 * (15 - (y 1).val) + (1 - (y 0).val)) % 2 ≤ (y 0).val ∧ (y 0).val < 1 - (2 * (15 - (y 1).val) + (1 - (y 0).val)) % 2 + 1; omega
    | ⟨1, _⟩ => show 15 - (2 * (15 - (y 1).val) + (1 - (y 0).val)) / 2 ≤ (y 1).val ∧ (y 1).val < 15 - (2 * (15 - (y 1).val) + (1 - (y 0).val)) / 2 + 1; omega
    | ⟨2, _⟩ => exact ⟨Nat.zero_le _, by show (y 2).val < 0 + 32; omega⟩
    | ⟨3, _⟩ => exact ⟨Nat.zero_le _, by show (y 3).val < 0 + 256; omega⟩

/-- Which block each window holds at each point of the grid (evaluated). -/
theorem idx0 : ∀ t : Fin cfg0.N, win0_0.index t = ![t.val, 0, 0] ∧ win0_1.index t = ![t.val, 0, 1] ∧ win0_2.index t = ![t.val, 0, 3]
    ∧ win0_3.index t = ![0, 0] ∧ win0_4.index t = ![0, t.val, 0, 0] :=
  (by decide +kernel : ∀ t : Fin grid0.N, _)

/-- The features at a hand, image, joint and channel, from the arrays the gather kernel reads. -/
def G0 (UV : Vec Ideal S128x2x64 .f32) (Im : Vec Ideal S128x256x1024 .f32) (E : Vec Ideal S256x256 .f32) (h : Fin 2) (b : Fin 128) (j : Fin 32) (ch : Fin 256) : EReal :=
  ∑ x : Fin 256, fmV (UV (ix3 b 0 (jt h j))) (UV (ix3 b 1 (jt h j))) (fun p => Im (ix3 b x ⟨512 + p.val, by omega⟩))
    (fun p => Im (ix3 b x ⟨384 + p.val, by omega⟩)) * E (ix2 x ch)

variable (V : (c : Dev nD) → (b : Ref sig .tc) → b.ty.Contents (Elt Ideal))

/-- The point's sixteen images among the 128. -/
abbrev bt (t : Fin cfg0.N) (i : Fin 16) : Fin 128 := ⟨16 * t.val + i.val, by have : t.val < 8 := t.isLt; omega⟩

/-- The coordinates' block at a point. -/
theorem blk0_0 (c : Dev nD) (t : Fin cfg0.N) (i : Fin 16) (a : Fin 2) (k : Fin 64) :
    (iblk0 V c 0 t : S16x2x64.Idx → EReal) (ix3 i a k) = (V c main_v3 : S128x2x64.Idx → EReal) (ix3 (bt t i) a k) := by
  obtain ⟨e, -, -, -, -⟩ := idx0 t
  blk_ext [iblk0, e]

/-- The lower lines' block at a point. -/
theorem blk0_1 (c : Dev nD) (t : Fin cfg0.N) (i : Fin 16) (x : Fin 256) (p : Fin 512) :
    (iblk0 V c 1 t : S16x256x512.Idx → EReal) (ix3 i x p) = (V c main_v4 : S128x256x1024.Idx → EReal) (ix3 (bt t i) x ⟨512 + p.val, by omega⟩) := by
  obtain ⟨-, e, -, -, -⟩ := idx0 t
  blk_ext [iblk0, e]

/-- The block of the four lines above at a point. -/
theorem blk0_2 (c : Dev nD) (t : Fin cfg0.N) (i : Fin 16) (x : Fin 256) (p : Fin 128) :
    (iblk0 V c 2 t : S16x256x128.Idx → EReal) (ix3 i x p) = (V c main_v4 : S128x256x1024.Idx → EReal) (ix3 (bt t i) x ⟨384 + p.val, by omega⟩) := by
  obtain ⟨-, -, e, -, -⟩ := idx0 t
  blk_ext [iblk0, e]

/-- The identity's block at a point is the array. -/
theorem blk0_3 (c : Dev nD) (t : Fin cfg0.N) (x ch : Fin 256) :
    (iblk0 V c 3 t : S256x256.Idx → EReal) (ix2 x ch) = (V c main_v10 : S256x256.Idx → EReal) (ix2 x ch) := by
  obtain ⟨-, -, -, e, -⟩ := idx0 t
  blk_ext [iblk0, e]

/-- A point's block, read from the arrays. -/
theorem sum0 (c : Dev nD) (t : Fin cfg0.N) (h : Fin 2) (i : Fin 16) (j : Fin 32) (ch : Fin 256) :
    (∑ x : Fin 256, fmV ((iblk0 V c 0 t : S16x2x64.Idx → EReal) (ix3 i 0 (jt h j))) ((iblk0 V c 0 t : S16x2x64.Idx → EReal) (ix3 i 1 (jt h j)))
        (fun p => (iblk0 V c 1 t : S16x256x512.Idx → EReal) (ix3 i x p)) (fun p => (iblk0 V c 2 t : S16x256x128.Idx → EReal) (ix3 i x p))
          * (iblk0 V c 3 t : S256x256.Idx → EReal) (ix2 x ch))
      = G0 (V c main_v3) (V c main_v4) (V c main_v10) h (bt t i) j ch := by
  unfold G0
  simp only [blk0_0, blk0_1, blk0_2, blk0_3]

/-- The gather kernel's result array. -/
theorem arr0 (c : Dev nD) :
    (dat0 V c).arrAt 4 cfg0.N = fun y : S2x128x32x256.Idx => G0 (V c main_v3) (V c main_v4) (V c main_v10) (y 0) (y 1) (y 2) (y 3) := by
  refine (dat0 V c).arrAt_eq_of_covers 4 _ (by decide +kernel) fun t hf y => ?_
  obtain ⟨-, -, -, -, e⟩ := idx0 t
  have he : (win0_4.blk t).view.emb y = (ix4 (y 0) (bt t (y 1)) (y 2) (y 3) : S2x128x32x256.Idx) := by
    blk_ext [e]
  blk_simp
  rw [after0_4, he]
  refine (out_apply _ _ _ _ y).trans ((tile_apply _ _ _ _ _ _ _).trans ?_)
  exact sum0 V c t (y 0) (y 1) (y 2) (y 3)

end Cert.Feat
end
-- ==== Proof.Region1.lean ====
/-
  The head kernel's result array: at every hand, image, joint and output channel, the two layers and the
  normalisation over the rows that are joints.
-/
module

public import proofs.«01_k».proof.Proof.Gen.KernelIdeal.Frame
public import proofs.«01_k».proof.Proof.Spec
public import Idealize.ShloMosaic.Lib.Pipeline.ValueKit
public import Idealize.ShloMosaic.Lib.Pointwise

@[expose] public section

set_option maxRecDepth 16384

noncomputable section

namespace Cert.Feat

open Idealize.ShloMosaic Idealize.SL.Sem Cert.KernelIdeal Cert.KernelIdeal.Gen
open Idealize.ShloMosaic.Pipeline (Dat)

/-- The constant named `inv_n` is the reciprocal of 2688. -/
theorem inv_n : Named.named (F := Ideal) κ "inv_n" (φ := .f32) 0x39C30C31#32 = ((1 / 2688 : ℝ) : EReal) :=
  IdealRules.named_const.ideal_named_scalar _ _ _ _ rfl

/-- The word that tells whether row `p` is a joint: its remainder by 32, made non-negative, is below 21. -/
def maskW (p : ℕ) : BitVec 1 :=
  IntOp.cmpi CmpIPredicate.slt
        (Scalar.select
          (IntOp.andi
            (IntOp.xori
              (IntOp.cmpi CmpIPredicate.slt
                (IntOp.remsi ArithUnit.vector (BitVec.ofNat 32 p)
                  (Scalar.select (Scalar.cmpi CmpIPredicate.eq 32#32 0#32) 1#32 32#32))
                0#32)
              (Scalar.cmpi CmpIPredicate.slt (Scalar.select (Scalar.cmpi CmpIPredicate.eq 32#32 0#32) 1#32 32#32) 0#32))
            (IntOp.cmpi CmpIPredicate.ne
              (IntOp.remsi ArithUnit.vector (BitVec.ofNat 32 p)
                (Scalar.select (Scalar.cmpi CmpIPredicate.eq 32#32 0#32) 1#32 32#32))
              0#32))
          (IntOp.addi
            (IntOp.remsi ArithUnit.vector (BitVec.ofNat 32 p)
              (Scalar.select (Scalar.cmpi CmpIPredicate.eq 32#32 0#32) 1#32 32#32))
            (Scalar.select (Scalar.cmpi CmpIPredicate.eq 32#32 0#32) 1#32 32#32))
          (IntOp.remsi ArithUnit.vector (BitVec.ofNat 32 p)
            (Scalar.select (Scalar.cmpi CmpIPredicate.eq 32#32 0#32) 1#32 32#32)))
        21#32

/-- It is 1 exactly on the joints' rows (evaluated). -/
theorem maskW_eq : ∀ p : Fin 4096, maskW p.val = BitVec.ofBool (decide (p.val % 32 < 21)) := by decide +kernel

/-- A sum over rows of what is there only on the joints' rows is a sum over images and joints. -/
theorem sum_rows (F : Fin 128 → Fin 21 → ℝ) (G : Fin 4096 → EReal)
    (h : ∀ (b : Fin 128) (j : Fin 32), G ⟨32 * b.val + j.val, by omega⟩ = if hj : j.val < 21 then ((F b ⟨j.val, hj⟩ : ℝ) : EReal) else 0) :
    ∑ p, G p = ((∑ b, ∑ j, F b j : ℝ) : EReal) := by
  have h1 : ∀ p : Fin 4096, G p = (fun (b : Fin 128) (j : Fin 32) => G ⟨32 * b.val + j.val, by omega⟩) ⟨p.val / 32, by omega⟩ ⟨p.val % 32, by omega⟩ := by
    intro p
    exact congrArg G (Fin.ext (by show p.val = 32 * (p.val / 32) + p.val % 32; omega))
  rw [Finset.sum_congr rfl fun p _ => h1 p]
  refine (sum_flat 128 fun b j => G ⟨32 * b.val + j.val, by omega⟩).trans ?_
  rw [← coe_sum]
  refine Finset.sum_congr rfl fun b _ => ?_
  rw [← coe_sum]
  simp only [h]
  rw [show (∑ x : Fin 32, if hj : x.val < 21 then ((F b ⟨x.val, hj⟩ : ℝ) : EReal) else 0)
      = ∑ x : Fin (21 + 11), if hj : x.val < 21 then ((F b ⟨x.val, hj⟩ : ℝ) : EReal) else 0 from rfl, Fin.sum_univ_add]
  rw [Finset.sum_eq_zero (s := (Finset.univ : Finset (Fin 11))) fun x _ => dif_neg (by simp), add_zero]
  refine Finset.sum_congr rfl fun j _ => ?_
  rw [dif_pos (by simp)]
  rfl

section
variable (x0 : Vec Ideal S1x4096x256 .f32) (x1 : Vec Ideal S1x128x256 .f32) (x2 x3 x4 x6 : Vec Ideal S1x1x128 .f32) (x5 : Vec Ideal S1x128x128 .f32)

/-- The first layer, read at a row and a channel. -/
theorem pay2_apply (p : Fin 4096) (c : Fin 128) :
    k1_pay2 x0 x1 x2 (ix2 p c) = ∑ ch : Fin 256, x0 (ix3 0 p ch) * x1 (ix3 0 c ch) + x2 (ix3 0 0 c) := by
  pointwise [k1_pay2]

/-- The first layer kept on the joints' rows, read at a row and a channel. -/
theorem pay3_apply (p : Fin 4096) (c : Fin 128) :
    k1_pay3 x0 x1 x2 (ix2 p c) = if p.val % 32 < 21 then k1_pay2 x0 x1 x2 (ix2 p c) else 0 := by
  have h : k1_pay3 x0 x1 x2 (ix2 p c) = Scalar.select (maskW p.val) (k1_pay2 x0 x1 x2 (ix2 p c)) 0 := by
    pointwise [k1_pay3]
    rfl
  rw [h, maskW_eq]
  by_cases hp : p.val % 32 < 21
  · simp [hp, Scalar.select]
  · simp [hp, Scalar.select]

/-- The mean: the sum over the rows times the named reciprocal. -/
theorem pay4_apply (c : Fin 128) :
    k1_pay4 x0 x1 x2 (ix2 0 c) = (∑ p : Fin 4096, k1_pay3 x0 x1 x2 (ix2 p c)) * ((1 / 2688 : ℝ) : EReal) := by
  pointwise [k1_pay4]
  rw [inv_n]

/-- The sum of squares over the rows. -/
theorem pay5_apply (c : Fin 128) :
    k1_pay5 x0 x1 x2 (ix1 c) = ∑ p : Fin 4096, k1_pay3 x0 x1 x2 (ix2 p c) * k1_pay3 x0 x1 x2 (ix2 p c) := by
  pointwise [k1_pay5]

/-- The head's last stage, from the first layer, the mean and the sum of squares. -/
theorem pay1_apply (h : FVec Ideal S4096x128 .f32) (mu : FVec Ideal S1x128 .f32) (sq : FVec Ideal S128 .f32) (p : Fin 4096) (o : Fin 128) :
    k1_pay1 h mu sq x3 x4 x5 x6 (ix3 0 p o)
      = ∑ k : Fin 128, max ((h (ix2 p k) - mu (ix2 0 k)) * Ideal.rsqrt (sq (ix1 k) * ((1 / 2688 : ℝ) : EReal) - mu (ix2 0 k) * mu (ix2 0 k) + ((eps : ℝ) : EReal))
          * x3 (ix3 0 0 k) + x4 (ix3 0 0 k)) 0 * x5 (ix3 0 o k) + x6 (ix3 0 0 o) := by
  pointwise [k1_pay1]
  rw [inv_n, bits_eps]

/-- The block the head body leaves. -/
theorem out1_apply (y : S1x4096x128.Idx) :
    out1_7 x0 x1 x2 x3 x4 x5 x6 y = k1_pay1 (k1_pay2 x0 x1 x2) (k1_pay4 x0 x1 x2) (k1_pay5 x0 x1 x2) x3 x4 x5 x6 y := by
  frame_out

/-- The row of an image's joint. -/
abbrev row (b : Fin 128) (j : Fin 21) : Fin 4096 := ⟨32 * b.val + j.val, by omega⟩

variable (f : Fin 128 → Fin 256 → Fin 21 → ℝ) (w : Fin 128 → Fin 256 → ℝ) (b1 : Fin 128 → ℝ)
  (hf : ∀ b ch j, x0 (ix3 0 (row b j) ch) = ((f b ch j : ℝ) : EReal))
  (hw : ∀ c ch, x1 (ix3 0 c ch) = ((w c ch : ℝ) : EReal)) (hb1 : ∀ c, x2 (ix3 0 0 c) = ((b1 c : ℝ) : EReal))

include hf hw hb1

/-- The first layer on a joint's row. -/
theorem pay2_row (b c : Fin 128) (j : Fin 21) : k1_pay2 x0 x1 x2 (ix2 (row b j) c) = ((hidR f w b1 b c j : ℝ) : EReal) := by
  rw [pay2_apply]
  simp only [hf, hw, hb1, ← EReal.coe_mul, coe_sum, ← EReal.coe_add]
  rfl

/-- The kept first layer on any row. -/
theorem pay3_row (b c : Fin 128) (j : Fin 32) :
    k1_pay3 x0 x1 x2 (ix2 ⟨32 * b.val + j.val, by omega⟩ c) = if hj : j.val < 21 then ((hidR f w b1 b c ⟨j.val, hj⟩ : ℝ) : EReal) else 0 := by
  rw [pay3_apply]
  by_cases hj : j.val < 21
  · rw [dif_pos hj, if_pos (by show (32 * b.val + j.val) % 32 < 21; omega)]
    exact pay2_row x0 x1 x2 f w b1 hf hw hb1 b c ⟨j.val, hj⟩
  · rw [dif_neg hj, if_neg (by show ¬ (32 * b.val + j.val) % 32 < 21; omega)]

/-- The mean, at a channel. -/
theorem pay4_val (c : Fin 128) : k1_pay4 x0 x1 x2 (ix2 0 c) = ((meanR (hidR f w b1) c : ℝ) : EReal) := by
  rw [pay4_apply, sum_rows (fun b j => hidR f w b1 b c j) _ fun b j => pay3_row x0 x1 x2 f w b1 hf hw hb1 b c j, ← EReal.coe_mul]
  rfl

/-- The sum of squares, at a channel. -/
theorem pay5_val (c : Fin 128) : k1_pay5 x0 x1 x2 (ix1 c) = ((∑ b, ∑ j, hidR f w b1 b c j * hidR f w b1 b c j : ℝ) : EReal) := by
  rw [pay5_apply, sum_rows (fun b j => hidR f w b1 b c j * hidR f w b1 b c j)]
  intro b j
  rw [pay3_row x0 x1 x2 f w b1 hf hw hb1 b c j]
  split
  · rw [EReal.coe_mul]
  · rw [mul_zero]

/-- The head's block on a joint's row. -/
theorem out1_row (b o : Fin 128) (j : Fin 21) :
    out1_7 x0 x1 x2 x3 x4 x5 x6 (ix3 0 (row b j) o)
      = outV (hidR f w b1) (fun k => x3 (ix3 0 0 k)) (fun k => x4 (ix3 0 0 k)) (fun o k => x5 (ix3 0 o k)) (fun o => x6 (ix3 0 0 o)) b j o := by
  rw [out1_apply, pay1_apply]
  unfold outV actV
  have hv : ∀ k, ((∑ b, ∑ j, hidR f w b1 b k j * hidR f w b1 b k j : ℝ) : EReal) * ((1 / 2688 : ℝ) : EReal)
      - ((meanR (hidR f w b1) k : ℝ) : EReal) * ((meanR (hidR f w b1) k : ℝ) : EReal) = ((varR (hidR f w b1) k : ℝ) : EReal) := fun k => by
    rw [← EReal.coe_mul, ← EReal.coe_mul, ← EReal.coe_sub]; rfl
  simp only [pay2_row x0 x1 x2 f w b1 hf hw hb1, pay4_val x0 x1 x2 f w b1 hf hw hb1, pay5_val x0 x1 x2 f w b1 hf hw hb1, hv, ← EReal.coe_sub, mul_rstd]

end

/-- Which block each window holds at each of the two hands (evaluated). -/
theorem idx1 : ∀ t : Fin cfg1.N, win1_0.index t = ![t.val, 0, 0] ∧ win1_1.index t = ![t.val, 0, 0] ∧ win1_2.index t = ![t.val, 0, 0]
    ∧ win1_3.index t = ![t.val, 0, 0] ∧ win1_4.index t = ![t.val, 0, 0] ∧ win1_5.index t = ![t.val, 0, 0] ∧ win1_6.index t = ![t.val, 0, 0]
    ∧ win1_7.index t = ![t.val, 0, 0] :=
  (by decide +kernel : ∀ t : Fin grid1.N, _)

/-- Hand `h`'s part of an array stacked by hands. -/
def part {n k : ℕ} (A : (⟨3, ![2, n, k]⟩ : Shape).Idx → EReal) (h : Fin 2) : (⟨3, ![1, n, k]⟩ : Shape).Idx → EReal :=
  fun y => A (ix3 h (y 1) (y 2))

variable (V : (c : Dev nD) → (b : Ref sig .tc) → b.ty.Contents (Elt Ideal))

/-- The features' block at a hand. -/
theorem blk1_0 (c : Dev nD) (t : Fin cfg1.N) : iblk1 V c 0 t = part (n := 4096) (k := 256) (V c main_v34) t := by
  obtain ⟨e, -, -, -, -, -, -, -⟩ := idx1 t
  funext y
  blk_ext [iblk1, part, e]

/-- The first weights' block at a hand. -/
theorem blk1_1 (c : Dev nD) (t : Fin cfg1.N) : iblk1 V c 1 t = part (n := 128) (k := 256) (V c main_v14) t := by
  obtain ⟨-, e, -, -, -, -, -, -⟩ := idx1 t
  funext y
  blk_ext [iblk1, part, e]

/-- The first bias' block at a hand. -/
theorem blk1_2 (c : Dev nD) (t : Fin cfg1.N) : iblk1 V c 2 t = part (n := 1) (k := 128) (V c main_v18) t := by
  obtain ⟨-, -, e, -, -, -, -, -⟩ := idx1 t
  funext y
  blk_ext [iblk1, part, e]

/-- The scale' block at a hand. -/
theorem blk1_3 (c : Dev nD) (t : Fin cfg1.N) : iblk1 V c 3 t = part (n := 1) (k := 128) (V c main_v22) t := by
  obtain ⟨-, -, -, e, -, -, -, -⟩ := idx1 t
  funext y
  blk_ext [iblk1, part, e]

/-- The shift' block at a hand. -/
theorem blk1_4 (c : Dev nD) (t : Fin cfg1.N) : iblk1 V c 4 t = part (n := 1) (k := 128) (V c main_v26) t := by
  obtain ⟨-, -, -, -, e, -, -, -⟩ := idx1 t
  funext y
  blk_ext [iblk1, part, e]

/-- The second weights' block at a hand. -/
theorem blk1_5 (c : Dev nD) (t : Fin cfg1.N) : iblk1 V c 5 t = part (n := 128) (k := 128) (V c main_v29) t := by
  obtain ⟨-, -, -, -, -, e, -, -⟩ := idx1 t
  funext y
  blk_ext [iblk1, part, e]

/-- The second bias' block at a hand. -/
theorem blk1_6 (c : Dev nD) (t : Fin cfg1.N) : iblk1 V c 6 t = part (n := 1) (k := 128) (V c main_v33) t := by
  obtain ⟨-, -, -, -, -, -, e, -⟩ := idx1 t
  funext y
  blk_ext [iblk1, part, e]

/-- The head kernel's result array. -/
theorem arr1 (c : Dev nD) :
    (dat1 V c).arrAt 7 cfg1.N = fun y : S2x4096x128.Idx =>
      out1_7 (part (V c main_v34) (y 0)) (part (V c main_v14) (y 0)) (part (V c main_v18) (y 0)) (part (V c main_v22) (y 0)) (part (V c main_v26) (y 0))
        (part (V c main_v29) (y 0)) (part (V c main_v33) (y 0)) (ix3 0 (y 1) (y 2)) := by
  refine (dat1 V c).arrAt_eq_of_covers 7 _ (by decide +kernel) fun t hf y => ?_
  obtain ⟨-, -, -, -, -, -, -, e⟩ := idx1 t
  have he : (win1_7.blk t).view.emb y = (ix3 t (y 1) (y 2) : S2x4096x128.Idx) := by
    blk_ext [e]
  blk_simp
  rw [after1_7, he, blk1_0, blk1_1, blk1_2, blk1_3, blk1_4, blk1_5, blk1_6]
  refine congrArg (out1_7 _ _ _ _ _ _ _) (funext fun a => Fin.ext ?_)
  have h0 : (y 0).val < 1 := (y 0).isLt
  match a with
  | ⟨0, _⟩ => show (y 0).val = 0; omega
  | ⟨1, _⟩ => rfl
  | ⟨2, _⟩ => rfl

end Cert.Feat
end
-- ==== Proof.Host.lean ====
/-
  What the program's host operations around the two kernels hold, read at an index: the arrays the kernels are
  given, in the program's arguments, and the two results, in the head kernel's array.
-/
module

public import proofs.«01_k».proof.Proof.Region0
public import proofs.«01_k».proof.Proof.Region1

@[expose] public section

set_option maxRecDepth 16384

noncomputable section

namespace Cert.Feat

open Idealize.ShloMosaic Idealize.SL.Sem Cert.KernelIdeal Cert.KernelIdeal.Gen

/-! ## The arrays the host builds, as functions of the arguments -/

/-- One hand's positions, padded from 21 joints to 32. -/
def padded (a : Vec Ideal S128x21x2 .f32) : Vec Ideal S128x32x2 .f32 :=
  pad S128x32x2 ![0, 0, 0] ![0, 11, 0] ![0, 0, 0] a (sitofp (F := Ideal) .f32 (constantI S_ 32 0#32)) pads_S128x21x2_S128x32x2_000_0110_000 h_S_

/-- Both hands' positions side by side, the coordinate before the joint. -/
def uvAll (a b : Vec Ideal S128x32x2 .f32) : Vec Ideal S128x2x64 .f32 :=
  transpose S128x2x64 [0, 2, 1]
    (concatenate S128x64x2 1 [⟨S128x32x2, a⟩, ⟨S128x32x2, b⟩] concatenates_S128x32x2_S128x32x2_S128x64x2_d1) transposes_S128x64x2_S128x2x64_0_2_1

/-- The image with its lines laid end to end. -/
def flat (a : Vec Ideal S128x256x32x32 .f32) : Vec Ideal S128x256x1024 .f32 :=
  shapeCast S128x256x1024 a shapeCasts_S128x256x32x32_S128x256x1024

/-- The identity matrix: 1 where the row's number is the column's. -/
def unitMat : Vec Ideal S256x256 .f32 :=
  uitofp (F := Ideal) .f32 (cmpi .eq (addi (iotaInDim S256x256 32 0) (broadcastInDim S256x256 ![] bcast_S_S256x256 (constantI S_ 32 0#32)))
    (iotaInDim S256x256 32 1))

/-- Two hands' first-layer weights, one after the other. -/
def both (a b : Vec Ideal S128x256 .f32) : Vec Ideal S2x128x256 .f32 :=
  concatenate S2x128x256 0 [⟨S1x128x256, broadcastInDim S1x128x256 ![1, 2] bcast_S128x256_S1x128x256_1_2 a⟩,
    ⟨S1x128x256, broadcastInDim S1x128x256 ![1, 2] bcast_S128x256_S1x128x256_1_2 b⟩] concatenates_S1x128x256_S1x128x256_S2x128x256_d0

/-- Two hands' second-layer weights, one after the other. -/
def bothSq (a b : Vec Ideal S128x128 .f32) : Vec Ideal S2x128x128 .f32 :=
  concatenate S2x128x128 0 [⟨S1x128x128, broadcastInDim S1x128x128 ![1, 2] bcast_S128x128_S1x128x128_1_2 a⟩,
    ⟨S1x128x128, broadcastInDim S1x128x128 ![1, 2] bcast_S128x128_S1x128x128_1_2 b⟩] concatenates_S1x128x128_S1x128x128_S2x128x128_d0

/-- Two hands' vectors of one number per channel, one after the other. -/
def bothRow (a b : Vec Ideal S128 .f32) : Vec Ideal S2x1x128 .f32 :=
  shapeCast S2x1x128 (concatenate S2x128 0 [⟨S1x128, broadcastInDim S1x128 ![1] bcast_S128_S1x128_1 a⟩,
    ⟨S1x128, broadcastInDim S1x128 ![1] bcast_S128_S1x128_1 b⟩] concatenates_S1x128_S1x128_S2x128_d0) shapeCasts_S2x128_S2x1x128

/-- A padded hand at a joint is that joint's position. -/
theorem padded_apply (a : Vec Ideal S128x21x2 .f32) (b : Fin 128) (j : Fin 21) (t : Fin 2) :
    padded a (ix3 b ⟨j.val, by omega⟩ t) = a (ix3 b j t) := by
  pointwise [padded]

/-- The first hand's joints come first. -/
theorem uvAll_left (x y : Vec Ideal S128x21x2 .f32) (b : Fin 128) (t : Fin 2) (j : Fin 21) :
    uvAll (padded x) (padded y) (ix3 b t (jt 0 ⟨j.val, by omega⟩)) = x (ix3 b j t) := by
  refine Eq.trans ?_ (padded_apply x b j t)
  pointwise [uvAll, jt]
  exact dif_pos (by omega)

/-- The second hand's joints come after. -/
theorem uvAll_right (x y : Vec Ideal S128x21x2 .f32) (b : Fin 128) (t : Fin 2) (j : Fin 21) :
    uvAll (padded x) (padded y) (ix3 b t (jt 1 ⟨j.val, by omega⟩)) = y (ix3 b j t) := by
  refine Eq.trans ?_ (padded_apply y b j t)
  pointwise [uvAll, jt]

/-- The laid-out image at a pixel. -/
theorem flat_apply (a : Vec Ideal S128x256x32x32 .f32) (b : Fin 128) (ch : Fin 256) (p : Fin 1024) :
    flat a (ix3 b ch p) = a (ix4 b ch ⟨p.val / 32, by omega⟩ ⟨p.val % 32, by omega⟩) := by
  pointwise [flat]

/-- The identity matrix at a row and a column. -/
theorem unitMat_apply (x y : Fin 256) : unitMat (ix2 x y) = if x = y then 1 else 0 := by
  have e : IntOp.cmpi .eq (IntOp.addi (BitVec.ofNat 32 x.val) 0#32) (BitVec.ofNat 32 y.val) = if x = y then 1#1 else 0#1 := by
    have hx := x.isLt
    have hy := y.isLt
    have hi : BitVec.ofNat 32 x.val = BitVec.ofNat 32 y.val ↔ x = y := by
      rw [← BitVec.toNat_inj, Fin.ext_iff]
      simp only [BitVec.toNat_ofNat]
      omega
    by_cases h : x = y
    · subst h
      simp [IntOp.cmpi, IntOp.addi]
    · have hb : (BitVec.ofNat 32 x.val == BitVec.ofNat 32 y.val) = false := beq_eq_false_iff_ne.mpr fun k => h (hi.mp k)
      simp [IntOp.cmpi, IntOp.addi, h, hb]
  pointwise [unitMat]
  rw [e]
  split
  · exact (show FloatOps.uitofp (F := Ideal) FTy.f32 (1#1) = (((1#1 : BitVec 1).toNat : ℝ) : EReal) from rfl).trans (by simp)
  · exact (show FloatOps.uitofp (F := Ideal) FTy.f32 (0#1) = (((0#1 : BitVec 1).toNat : ℝ) : EReal) from rfl).trans (by simp)

/-- The first hand's weights. -/
theorem both_left (x y : Vec Ideal S128x256 .f32) (i : Fin 128) (k : Fin 256) : both x y (ix3 0 i k) = x (ix2 i k) := by
  pointwise [both]

/-- The second hand's weights. -/
theorem both_right (x y : Vec Ideal S128x256 .f32) (i : Fin 128) (k : Fin 256) : both x y (ix3 1 i k) = y (ix2 i k) := by
  pointwise [both]

/-- The first hand's second-layer weights. -/
theorem bothSq_left (x y : Vec Ideal S128x128 .f32) (i k : Fin 128) : bothSq x y (ix3 0 i k) = x (ix2 i k) := by
  pointwise [bothSq]

/-- The second hand's second-layer weights. -/
theorem bothSq_right (x y : Vec Ideal S128x128 .f32) (i k : Fin 128) : bothSq x y (ix3 1 i k) = y (ix2 i k) := by
  pointwise [bothSq]

/-- The first hand's vector. -/
theorem bothRow_left (x y : Vec Ideal S128 .f32) (k : Fin 128) : bothRow x y (ix3 0 0 k) = x (ix1 k) := by
  pointwise [bothRow]

/-- The second hand's vector. -/
theorem bothRow_right (x y : Vec Ideal S128 .f32) (k : Fin 128) : bothRow x y (ix3 1 0 k) = y (ix1 k) := by
  pointwise [bothRow]

/-! ## The buffers -/

variable (m : (ℓ : Loc nD τ sig) → Buf (Elt Ideal) ℓ) (ρ : Dev nD → PrngReg) (c : Dev nD)

/-- The first hand's positions, padded. -/
theorem W4_main_v0 : (W4 m ρ c (Proc.devRef .tc main_v0) : Vec Ideal S128x32x2 .f32) = padded (m ((c.tc : Thread nD τ).loc main_arg3)) := by
  rw [W4_of m ρ c main_v0 (by decide), W3_of m ρ c main_v0 (by decide), ← W1_args m ρ c main_arg3 (by decide)]
  unfold W2 W1
  after_results_simp
  rfl

/-- The second hand's positions, padded. -/
theorem W4_main_v1 : (W4 m ρ c (Proc.devRef .tc main_v1) : Vec Ideal S128x32x2 .f32) = padded (m ((c.tc : Thread nD τ).loc main_arg4)) := by
  rw [← W3_args m ρ c main_arg4 (by decide)]
  unfold W4 W3
  after_results_simp
  rfl

/-- The gather kernel's positions. -/
theorem W5_main_v3 : (W5 m ρ c (Proc.devRef .tc main_v3) : Vec Ideal S128x2x64 .f32)
    = uvAll (padded (m ((c.tc : Thread nD τ).loc main_arg3))) (padded (m ((c.tc : Thread nD τ).loc main_arg4))) := by
  rw [← W4_main_v0 m ρ c, ← W4_main_v1 m ρ c]
  unfold W5
  after_results_simp
  rfl

/-- The gather kernel's image. -/
theorem W5_main_v4 : (W5 m ρ c (Proc.devRef .tc main_v4) : Vec Ideal S128x256x1024 .f32) = flat (m ((c.tc : Thread nD τ).loc main_arg0)) := by
  rw [← W4_args m ρ c main_arg0 (by decide)]
  unfold W5
  after_results_simp
  rfl

/-- The gather kernel's identity matrix. -/
theorem W5_main_v10 : (W5 m ρ c (Proc.devRef .tc main_v10) : Vec Ideal S256x256 .f32) = unitMat := by
  unfold W5
  after_results_simp
  rfl

/-- The gather kernel's array. -/
theorem W6_main_v11 : (W6 m ρ c (Proc.devRef .tc main_v11) : Vec Ideal S2x128x32x256 .f32)
    = fun y => G0 (uvAll (padded (m ((c.tc : Thread nD τ).loc main_arg3))) (padded (m ((c.tc : Thread nD τ).loc main_arg4))))
        (flat (m ((c.tc : Thread nD τ).loc main_arg0))) unitMat (y 0) (y 1) (y 2) (y 3) := by
  rw [← W5_main_v3 m ρ c, ← W5_main_v4 m ρ c, ← W5_main_v10 m ρ c]
  exact (W6_arr m ρ c 4).trans (arr0 (V5 m ρ) c)

/-- The head kernel's features: the gather kernel's array, its images and joints run together. -/
theorem W7_main_v34 : (W7 m ρ c (Proc.devRef .tc main_v34) : Vec Ideal S2x4096x256 .f32)
    = shapeCast S2x4096x256 (W6 m ρ c (Proc.devRef .tc main_v11) : Vec Ideal S2x128x32x256 .f32) shapeCasts_S2x128x32x256_S2x4096x256 := by
  unfold W7
  after_results_simp
  rfl

/-- The head kernel's first-layer weights. -/
theorem W7_main_v14 : (W7 m ρ c (Proc.devRef .tc main_v14) : Vec Ideal S2x128x256 .f32)
    = both (m ((c.tc : Thread nD τ).loc main_arg8)) (m ((c.tc : Thread nD τ).loc main_arg14)) := by
  rw [← W6_args m ρ c main_arg8 (by decide), ← W6_args m ρ c main_arg14 (by decide)]
  unfold W7
  after_results_simp
  rfl

/-- The head kernel's first-layer biases. -/
theorem W7_main_v18 : (W7 m ρ c (Proc.devRef .tc main_v18) : Vec Ideal S2x1x128 .f32)
    = bothRow (m ((c.tc : Thread nD τ).loc main_arg9)) (m ((c.tc : Thread nD τ).loc main_arg15)) := by
  rw [← W6_args m ρ c main_arg9 (by decide), ← W6_args m ρ c main_arg15 (by decide)]
  unfold W7
  after_results_simp
  rfl

/-- The head kernel's normalisation scales. -/
theorem W7_main_v22 : (W7 m ρ c (Proc.devRef .tc main_v22) : Vec Ideal S2x1x128 .f32)
    = bothRow (m ((c.tc : Thread nD τ).loc main_arg10)) (m ((c.tc : Thread nD τ).loc main_arg16)) := by
  rw [← W6_args m ρ c main_arg10 (by decide), ← W6_args m ρ c main_arg16 (by decide)]
  unfold W7
  after_results_simp
  rfl

/-- The head kernel's normalisation shifts. -/
theorem W7_main_v26 : (W7 m ρ c (Proc.devRef .tc main_v26) : Vec Ideal S2x1x128 .f32)
    = bothRow (m ((c.tc : Thread nD τ).loc main_arg11)) (m ((c.tc : Thread nD τ).loc main_arg17)) := by
  rw [← W6_args m ρ c main_arg11 (by decide), ← W6_args m ρ c main_arg17 (by decide)]
  unfold W7
  after_results_simp
  rfl

/-- The head kernel's second-layer weights. -/
theorem W7_main_v29 : (W7 m ρ c (Proc.devRef .tc main_v29) : Vec Ideal S2x128x128 .f32)
    = bothSq (m ((c.tc : Thread nD τ).loc main_arg12)) (m ((c.tc : Thread nD τ).loc main_arg18)) := by
  rw [← W6_args m ρ c main_arg12 (by decide), ← W6_args m ρ c main_arg18 (by decide)]
  unfold W7
  after_results_simp
  rfl

/-- The head kernel's second-layer biases. -/
theorem W7_main_v33 : (W7 m ρ c (Proc.devRef .tc main_v33) : Vec Ideal S2x1x128 .f32)
    = bothRow (m ((c.tc : Thread nD τ).loc main_arg13)) (m ((c.tc : Thread nD τ).loc main_arg19)) := by
  rw [← W6_args m ρ c main_arg13 (by decide), ← W6_args m ρ c main_arg19 (by decide)]
  unfold W7
  after_results_simp
  rfl

/-- Half a head kernel's array, its rows parted into images and joints and the padding dropped. -/
def outHalf (off : Fin 4 → Nat) (h : S2x128x21x128.Slices off S1x128x21x128) (a : Vec Ideal S2x4096x128 .f32) : Vec Ideal S128x21x128 .f32 :=
  shapeCast S128x21x128 (extractStridedSlice S1x128x21x128 off
    (extractStridedSlice S2x128x21x128 ![0, 0, 0, 0] (shapeCast S2x128x32x128 a shapeCasts_S2x4096x128_S2x128x32x128)
      slices_S2x128x32x128_S2x128x21x128_0_0_0_0) h) shapeCasts_S1x128x21x128_S128x21x128

/-- The first result reads the first hand's rows. -/
theorem outHalf_left (a : Vec Ideal S2x4096x128 .f32) (b : Fin 128) (j : Fin 21) (o : Fin 128) :
    outHalf ![0, 0, 0, 0] slices_S2x128x21x128_S1x128x21x128_0_0_0_0 a (ix3 b j o) = a (ix3 0 (row b j) o) := by
  pointwise [outHalf, row]
  exact congrArg (fun r => a (ix3 0 r o)) (Fin.ext (by show b.val * 32 + j.val = 32 * b.val + j.val; omega))

/-- The second result reads the second hand's rows. -/
theorem outHalf_right (a : Vec Ideal S2x4096x128 .f32) (b : Fin 128) (j : Fin 21) (o : Fin 128) :
    outHalf ![1, 0, 0, 0] slices_S2x128x21x128_S1x128x21x128_1_0_0_0 a (ix3 b j o) = a (ix3 1 (row b j) o) := by
  pointwise [outHalf, row]
  exact congrArg (fun r => a (ix3 1 r o)) (Fin.ext (by show b.val * 32 + j.val = 32 * b.val + j.val; omega))

/-- The program's first result, in the head kernel's array. -/
theorem W9_main_v39 : (W9 m ρ c (Proc.devRef .tc main_v39) : Vec Ideal S128x21x128 .f32)
    = outHalf ![0, 0, 0, 0] slices_S2x128x21x128_S1x128x21x128_0_0_0_0 (W8 m ρ c (Proc.devRef .tc main_v35)) := by
  unfold W9
  after_results_simp
  rfl

/-- The program's second result, in the head kernel's array. -/
theorem W9_main_v41 : (W9 m ρ c (Proc.devRef .tc main_v41) : Vec Ideal S128x21x128 .f32)
    = outHalf ![1, 0, 0, 0] slices_S2x128x21x128_S1x128x21x128_1_0_0_0 (W8 m ρ c (Proc.devRef .tc main_v35)) := by
  unfold W9
  after_results_simp
  rfl

/-- Features with images and joints run together, at a joint's row. -/
theorem rows_apply (a : Vec Ideal S2x128x32x256 .f32) (h : Fin 2) (b : Fin 128) (j : Fin 21) (ch : Fin 256) :
    shapeCast S2x4096x256 a shapeCasts_S2x128x32x256_S2x4096x256 (ix3 h (row b j) ch) = a (ix4 h b ⟨j.val, by omega⟩ ch) := by
  pointwise [row]
  exact congrArg (fun r => a (ix4 h b r ch)) (Fin.ext (by show (32 * b.val + j.val) % 32 = j.val; omega))

end Cert.Feat

end
-- ==== Proof.Hands.lean ====
/-
  The program's two results in its arguments: from a finite image and first layer, and heights that are not
  negative, each hand's result is the two layers and the normalisation of the image's features.
-/
module

public import proofs.«01_k».proof.Proof.Host

@[expose] public section

set_option maxRecDepth 16384

noncomputable section

namespace Cert.Feat

open Idealize.ShloMosaic Idealize.SL.Sem Cert.KernelIdeal Cert.KernelIdeal.Gen

/-- Over a finite image, with a height that is not negative, the twenty lines the gather kernel reads give the sum
    over all thirty-two: the twelve lines it does not read have no weight. -/
theorem fmV_real (g : Fin 32 → Fin 32 → ℝ) (u v : EReal) (hv : 0 ≤ v) (A : Fin 512 → EReal) (B : Fin 128 → EReal)
    (hA : ∀ x : Fin 512, A x = ((g ⟨16 + x.val / 32, by omega⟩ ⟨x.val % 32, by omega⟩ : ℝ) : EReal))
    (hB : ∀ x : Fin 128, B x = ((g ⟨12 + x.val / 32, by omega⟩ ⟨x.val % 32, by omega⟩ : ℝ) : EReal)) :
    fmV u v A B = ((∑ r : Fin 32, ∑ q : Fin 32, g r q * (wt (px v) r.val * wt (px u) q.val) : ℝ) : EReal) := by
  unfold fmV
  simp only [hA, hB, ← EReal.coe_mul]
  rw [coe_sum, coe_sum, ← EReal.coe_add]
  exact congrArg _ (sum_lower (fun r q => g r q * (wt (px v) r.val * wt (px u) q.val)) fun r hr q => by
    rw [wt_px_zero v hv r.val hr, zero_mul, mul_zero])

/-- One hand's position of an image's joint. -/
abbrev pos (p : Vec Ideal S128x21x2 .f32) (b : Fin 128) (j : Fin 21) (k : Fin 2) : EReal := p (ix3 b j k)

/-- The gather kernel's array at a joint, over a finite image. -/
theorem G0_real (UV : Vec Ideal S128x2x64 .f32) (x0 : Vec Ideal S128x256x32x32 .f32) (g : Fin 128 → Fin 256 → Fin 32 → Fin 32 → ℝ)
    (hg : ∀ b ch r q, x0 (ix4 b ch r q) = ((g b ch r q : ℝ) : EReal)) (h : Fin 2) (p : Vec Ideal S128x21x2 .f32)
    (hp : ∀ (b : Fin 128) (t : Fin 2) (j : Fin 21), UV (ix3 b t (jt h ⟨j.val, by omega⟩)) = p (ix3 b j t))
    (hv : ∀ b j, 0 ≤ pos p b j 1) (b : Fin 128) (j : Fin 21) (ch : Fin 256) :
    G0 UV (flat x0) unitMat h b ⟨j.val, by omega⟩ ch = ((featR g (pos p) b ch j : ℝ) : EReal) := by
  unfold G0
  rw [Finset.sum_eq_single ch]
  · rw [unitMat_apply, if_pos rfl, mul_one, hp, hp]
    refine fmV_real (g b ch) _ _ (hv b j) _ _ (fun x => ?_) fun x => ?_
    · rw [flat_apply, ← hg]
      exact congrArg₂ (fun r q => x0 (ix4 b ch r q)) (Fin.ext (by show (512 + x.val) / 32 = 16 + x.val / 32; omega))
        (Fin.ext (by show (512 + x.val) % 32 = x.val % 32; omega))
    · rw [flat_apply, ← hg]
      exact congrArg₂ (fun r q => x0 (ix4 b ch r q)) (Fin.ext (by show (384 + x.val) / 32 = 12 + x.val / 32; omega))
        (Fin.ext (by show (384 + x.val) % 32 = x.val % 32; omega))
  · intro x _ hx
    rw [unitMat_apply, if_neg hx, mul_zero]
  · exact fun hx => absurd (Finset.mem_univ _) hx

/-- The output's formula, its four parameters replaced by equal ones. -/
theorem outV_congr (h : Fin 128 → Fin 128 → Fin 21 → ℝ) (g g' be be' b2 b2' : Fin 128 → EReal) (w2 w2' : Fin 128 → Fin 128 → EReal)
    (e1 : ∀ k, g k = g' k) (e2 : ∀ k, be k = be' k) (e3 : ∀ i k, w2 i k = w2' i k) (e4 : ∀ k, b2 k = b2' k) (b : Fin 128) (j : Fin 21) (o : Fin 128) :
    outV h g be w2 b2 b j o = outV h g' be' w2' b2' b j o := by
  rw [funext e1, funext e2, funext fun i => funext (e3 i), funext e4]

variable (m : (ℓ : Loc nD τ sig) → Buf (Elt Ideal) ℓ) (ρ : Dev nD → PrngReg) (c : Dev nD)

variable (g : Fin 128 → Fin 256 → Fin 32 → Fin 32 → ℝ)
  (hg : ∀ b ch r q, (m ((c.tc : Thread nD τ).loc main_arg0) : Vec Ideal S128x256x32x32 .f32) (ix4 b ch r q) = ((g b ch r q : ℝ) : EReal))
include hg

/-- The features the head kernel is given, at the first hand's joints. -/
theorem feat_left (hv : ∀ b j, 0 ≤ pos (m ((c.tc : Thread nD τ).loc main_arg3)) b j 1) (b : Fin 128) (ch : Fin 256) (j : Fin 21) :
    (W7 m ρ c (Proc.devRef .tc main_v34) : Vec Ideal S2x4096x256 .f32) (ix3 0 (row b j) ch)
      = ((featR g (pos (m ((c.tc : Thread nD τ).loc main_arg3))) b ch j : ℝ) : EReal) := by
  rw [W7_main_v34, rows_apply, W6_main_v11]
  exact G0_real _ _ g hg 0 _ (uvAll_left _ _) hv b j ch

/-- The features the head kernel is given, at the second hand's joints. -/
theorem feat_right (hv : ∀ b j, 0 ≤ pos (m ((c.tc : Thread nD τ).loc main_arg4)) b j 1) (b : Fin 128) (ch : Fin 256) (j : Fin 21) :
    (W7 m ρ c (Proc.devRef .tc main_v34) : Vec Ideal S2x4096x256 .f32) (ix3 1 (row b j) ch)
      = ((featR g (pos (m ((c.tc : Thread nD τ).loc main_arg4))) b ch j : ℝ) : EReal) := by
  rw [W7_main_v34, rows_apply, W6_main_v11]
  exact G0_real _ _ g hg 1 _ (uvAll_right _ _) hv b j ch

variable (w : Fin 128 → Fin 256 → ℝ) (b1 : Fin 128 → ℝ)

/-- The program's first result: the first hand's two layers and normalisation. -/
theorem W9_left (hw : ∀ i ch, (m ((c.tc : Thread nD τ).loc main_arg8) : Vec Ideal S128x256 .f32) (ix2 i ch) = ((w i ch : ℝ) : EReal))
    (hb1 : ∀ i, (m ((c.tc : Thread nD τ).loc main_arg9) : Vec Ideal S128 .f32) (ix1 i) = ((b1 i : ℝ) : EReal))
    (hv : ∀ b j, 0 ≤ pos (m ((c.tc : Thread nD τ).loc main_arg3)) b j 1) (b : Fin 128) (j : Fin 21) (o : Fin 128) :
    (W9 m ρ c (Proc.devRef .tc main_v39) : Vec Ideal S128x21x128 .f32) (ix3 b j o)
      = outV (hidR (featR g (pos (m ((c.tc : Thread nD τ).loc main_arg3)))) w b1)
          (fun k => (m ((c.tc : Thread nD τ).loc main_arg10) : Vec Ideal S128 .f32) (ix1 k)) (fun k => (m ((c.tc : Thread nD τ).loc main_arg11) : Vec Ideal S128 .f32) (ix1 k))
          (fun o k => (m ((c.tc : Thread nD τ).loc main_arg12) : Vec Ideal S128x128 .f32) (ix2 o k)) (fun o => (m ((c.tc : Thread nD τ).loc main_arg13) : Vec Ideal S128 .f32) (ix1 o)) b j o := by
  rw [W9_main_v39, outHalf_left]
  refine (congrFun ((W8_arr m ρ c 7).trans (arr1 (V7 m ρ) c)) (ix3 0 (row b j) o)).trans ?_
  refine (out1_row _ _ _ _ _ _ _ _ w b1 (fun b ch j => feat_left m ρ c g hg hv b ch j) ?_ ?_ b o j).trans ?_
  · intro i ch
    show (W7 m ρ c (Proc.devRef .tc main_v14) : Vec Ideal S2x128x256 .f32) (ix3 0 i ch) = _
    rw [W7_main_v14, both_left, hw]
  · intro i
    show (W7 m ρ c (Proc.devRef .tc main_v18) : Vec Ideal S2x1x128 .f32) (ix3 0 0 i) = _
    rw [W7_main_v18, bothRow_left, hb1]
  · have e1 : ∀ k : Fin 128, (W7 m ρ c (Proc.devRef .tc main_v22) : Vec Ideal S2x1x128 .f32) (ix3 0 0 k) = (m ((c.tc : Thread nD τ).loc main_arg10) : Vec Ideal S128 .f32) (ix1 k) := fun k => by
      rw [W7_main_v22, bothRow_left]
    have e2 : ∀ k : Fin 128, (W7 m ρ c (Proc.devRef .tc main_v26) : Vec Ideal S2x1x128 .f32) (ix3 0 0 k) = (m ((c.tc : Thread nD τ).loc main_arg11) : Vec Ideal S128 .f32) (ix1 k) := fun k => by
      rw [W7_main_v26, bothRow_left]
    have e3 : ∀ i k : Fin 128, (W7 m ρ c (Proc.devRef .tc main_v29) : Vec Ideal S2x128x128 .f32) (ix3 0 i k) = (m ((c.tc : Thread nD τ).loc main_arg12) : Vec Ideal S128x128 .f32) (ix2 i k) := fun i k => by
      rw [W7_main_v29, bothSq_left]
    have e4 : ∀ k : Fin 128, (W7 m ρ c (Proc.devRef .tc main_v33) : Vec Ideal S2x1x128 .f32) (ix3 0 0 k) = (m ((c.tc : Thread nD τ).loc main_arg13) : Vec Ideal S128 .f32) (ix1 k) := fun k => by
      rw [W7_main_v33, bothRow_left]
    exact outV_congr _ _ _ _ _ _ _ _ _ e1 e2 e3 e4 b j o

/-- The program's second result: the second hand's two layers and normalisation. -/
theorem W9_right (hw : ∀ i ch, (m ((c.tc : Thread nD τ).loc main_arg14) : Vec Ideal S128x256 .f32) (ix2 i ch) = ((w i ch : ℝ) : EReal))
    (hb1 : ∀ i, (m ((c.tc : Thread nD τ).loc main_arg15) : Vec Ideal S128 .f32) (ix1 i) = ((b1 i : ℝ) : EReal))
    (hv : ∀ b j, 0 ≤ pos (m ((c.tc : Thread nD τ).loc main_arg4)) b j 1) (b : Fin 128) (j : Fin 21) (o : Fin 128) :
    (W9 m ρ c (Proc.devRef .tc main_v41) : Vec Ideal S128x21x128 .f32) (ix3 b j o)
      = outV (hidR (featR g (pos (m ((c.tc : Thread nD τ).loc main_arg4)))) w b1)
          (fun k => (m ((c.tc : Thread nD τ).loc main_arg16) : Vec Ideal S128 .f32) (ix1 k)) (fun k => (m ((c.tc : Thread nD τ).loc main_arg17) : Vec Ideal S128 .f32) (ix1 k))
          (fun o k => (m ((c.tc : Thread nD τ).loc main_arg18) : Vec Ideal S128x128 .f32) (ix2 o k)) (fun o => (m ((c.tc : Thread nD τ).loc main_arg19) : Vec Ideal S128 .f32) (ix1 o)) b j o := by
  rw [W9_main_v41, outHalf_right]
  refine (congrFun ((W8_arr m ρ c 7).trans (arr1 (V7 m ρ) c)) (ix3 1 (row b j) o)).trans ?_
  refine (out1_row _ _ _ _ _ _ _ _ w b1 (fun b ch j => feat_right m ρ c g hg hv b ch j) ?_ ?_ b o j).trans ?_
  · intro i ch
    show (W7 m ρ c (Proc.devRef .tc main_v14) : Vec Ideal S2x128x256 .f32) (ix3 1 i ch) = _
    rw [W7_main_v14, both_right, hw]
  · intro i
    show (W7 m ρ c (Proc.devRef .tc main_v18) : Vec Ideal S2x1x128 .f32) (ix3 1 0 i) = _
    rw [W7_main_v18, bothRow_right, hb1]
  · have e1 : ∀ k : Fin 128, (W7 m ρ c (Proc.devRef .tc main_v22) : Vec Ideal S2x1x128 .f32) (ix3 1 0 k) = (m ((c.tc : Thread nD τ).loc main_arg16) : Vec Ideal S128 .f32) (ix1 k) := fun k => by
      rw [W7_main_v22, bothRow_right]
    have e2 : ∀ k : Fin 128, (W7 m ρ c (Proc.devRef .tc main_v26) : Vec Ideal S2x1x128 .f32) (ix3 1 0 k) = (m ((c.tc : Thread nD τ).loc main_arg17) : Vec Ideal S128 .f32) (ix1 k) := fun k => by
      rw [W7_main_v26, bothRow_right]
    have e3 : ∀ i k : Fin 128, (W7 m ρ c (Proc.devRef .tc main_v29) : Vec Ideal S2x128x128 .f32) (ix3 1 i k) = (m ((c.tc : Thread nD τ).loc main_arg18) : Vec Ideal S128x128 .f32) (ix2 i k) := fun i k => by
      rw [W7_main_v29, bothSq_right]
    have e4 : ∀ k : Fin 128, (W7 m ρ c (Proc.devRef .tc main_v33) : Vec Ideal S2x1x128 .f32) (ix3 1 0 k) = (m ((c.tc : Thread nD τ).loc main_arg19) : Vec Ideal S128 .f32) (ix1 k) := fun k => by
      rw [W7_main_v33, bothRow_right]
    exact outV_congr _ _ _ _ _ _ _ _ _ e1 e2 e3 e4 b j o

end Cert.Feat

end
-- ==== Proof.Taps.lean ====
/-
  The plain program's four bilinear taps. Each gathers one of the four neighbours of a joint's pixel position,
  weighed by its bilinear weight and by whether it lies inside the image. The four are one function, named here
  once, and read at an index.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.Joint

open Idealize.ShloMosaic Idealize.SL.Sem Cert.ReferenceIdeal Cert.ReferenceIdeal.Gen Cert.ReferenceIdeal.Read Cert.Feat

variable {F : FTy → Type} [FloatOps F]

/-- Whether a whole position lies inside the image, as a float: 1 inside, 0 outside. -/
def inside (ix iy : FVec F S128x1x21 .f32) : FVec F S128x1x21 .f32 :=
  uitofp .f32 (andi (andi (andi
    (cmpf .oge ix (broadcastInDim S128x1x21 ![] bcast_S_S128x1x21 (constant S_ .f32 0x00000000#32)))
    (cmpf .ole ix (broadcastInDim S128x1x21 ![] bcast_S_S128x1x21 (constant S_ .f32 0x41F80000#32))))
    (cmpf .oge iy (broadcastInDim S128x1x21 ![] bcast_S_S128x1x21 (constant S_ .f32 0x00000000#32))))
    (cmpf .ole iy (broadcastInDim S128x1x21 ![] bcast_S_S128x1x21 (constant S_ .f32 0x41F80000#32))))

/-- A whole position moved to the nearest one inside the image, as an integer. -/
def clipI (ix : FVec F S128x1x21 .f32) : IVec S128x1x21 32 :=
  fptosi 32 (minimumf (broadcastInDim S128x1x21 ![] bcast_S_S128x1x21 (sitofp .f32 (constantI S_ 32 31#32)))
    (maximumf (broadcastInDim S128x1x21 ![] bcast_S_S128x1x21 (sitofp .f32 (constantI S_ 32 0#32))) ix))

/-- The number, in the flattened image, of the pixel nearest to a whole position. -/
def linI (ix iy : FVec F S128x1x21 .f32) : IVec S128x21 32 :=
  shapeCast S128x21 (addi (muli (clipI iy) (broadcastInDim S128x1x21 ![] bcast_S_S128x1x21 (constantI S_ 32 32#32))) (clipI ix))
    shapeCasts_S128x1x21_S128x21

/-- That number, with a negative one counted from the end. -/
def wrapI (l : IVec S128x21 32) : IVec S128x21x1 32 :=
  broadcastInDim S128x21x1 ![0, 1] bcast_S128x21_S128x21x1_0_1
    (select (cmpi .slt l (broadcastInDim S128x21 ![] bcast_S_S128x21 (constantI S_ 32 0#32)))
      (addi l (broadcastInDim S128x21 ![] bcast_S_S128x21 (constantI S_ 32 1024#32))) l)

/-- The images' values at one pixel number for each joint. -/
def pick (x0 : FVec F S128x256x32x32 .f32) (l : IVec S128x21 32) : FVec F S128x256x21 .f32 :=
  Host.gather gather_S128x256x1024_S128x21x1_S128x256x21_1_2_0_0_2_2_12561
    (shapeCast S128x256x1024 x0 shapeCasts_S128x256x32x32_S128x256x1024) (wrapI l)

/-- One tap: the image at the pixel nearest to a whole position, times the weight, times whether it is inside. -/
def tap (x0 : FVec F S128x256x32x32 .f32) (ix iy w : FVec F S128x1x21 .f32) : FVec F S128x256x1x21 .f32 :=
  mulf (shapeCast S128x256x1x21 (pick x0 (linI ix iy)) shapeCasts_S128x256x21_S128x256x1x21)
    (broadcastInDim S128x256x1x21 ![0, 1, 2, 3] bcast_S128x1x1x21_S128x256x1x21_0_1_2_3
      (shapeCast S128x1x1x21 (mulf w (inside ix iy)) shapeCasts_S128x1x21_S128x1x1x21))

/-- The printed first tap, at the position's whole part. -/
theorem v71_eq (x0 : FVec F S128x256x32x32 .f32) (x3 : FVec F S128x21x2 .f32) :
    val_main_v71 x0 x3 = tap x0 (val_main_v21 x3) (val_main_v22 x3) (val_main_v29 x3) := by rfl
/-- The printed second tap, one line further. -/
theorem v104_eq (x0 : FVec F S128x256x32x32 .f32) (x3 : FVec F S128x21x2 .f32) :
    val_main_v104 x0 x3 = tap x0 (val_main_v21 x3) (val_main_v26 x3) (val_main_v32 x3) := by rfl
/-- The printed third tap, one column further. -/
theorem v138_eq (x0 : FVec F S128x256x32x32 .f32) (x3 : FVec F S128x21x2 .f32) :
    val_main_v138 x0 x3 = tap x0 (val_main_v24 x3) (val_main_v22 x3) (val_main_v35 x3) := by rfl
/-- The printed fourth tap, one line and one column further. -/
theorem v172_eq (x0 : FVec F S128x256x32x32 .f32) (x3 : FVec F S128x21x2 .f32) :
    val_main_v172 x0 x3 = tap x0 (val_main_v24 x3) (val_main_v26 x3) (val_main_v38 x3) := by rfl

/-- The plain program computes both hands by the same operations. -/
theorem hand2 (x0 : FVec F S128x256x32x32 .f32) (x3 : FVec F S128x21x2 .f32) (x8 : FVec F S128x256 .f32)
    (x9 x10 x11 : FVec F S128 .f32) (x12 : FVec F S128x128 .f32) (x13 : FVec F S128 .f32) :
    val_main_v413 x0 x3 x8 x9 x10 x11 x12 x13 = val_main_v206 x0 x3 x8 x9 x10 x11 x12 x13 := by rfl

/-- The words the positions are compared and clipped with. -/
theorem sitofp_31 : FloatOps.sitofp (F := Ideal) FTy.f32 31#32 = ((31 : ℝ) : EReal) := by
  show (((31#32 : BitVec 32).toInt : ℝ) : EReal) = _
  rw [show (31#32 : BitVec 32).toInt = 31 from rfl]; norm_num
theorem sitofp_0 : FloatOps.sitofp (F := Ideal) FTy.f32 0#32 = (0 : EReal) := by
  show (((0#32 : BitVec 32).toInt : ℝ) : EReal) = _
  norm_num

/-- Being inside, read at a joint: 1 when both whole positions are between 0 and 31, else 0. -/
theorem inside_apply (ix iy : FVec Ideal S128x1x21 .f32) (b : Fin 128) (j : Fin 21) :
    inside ix iy (ix3 b 0 j) = if 0 ≤ ix (ix3 b 0 j) ∧ ix (ix3 b 0 j) ≤ ((31 : ℝ) : EReal) ∧ 0 ≤ iy (ix3 b 0 j)
      ∧ iy (ix3 b 0 j) ≤ ((31 : ℝ) : EReal) then (1 : EReal) else 0 := by
  pointwise [inside]
  rw [bits_31]
  have h : ∀ p q r s : Bool, FloatOps.uitofp (F := Ideal) FTy.f32 (IntOp.andi (IntOp.andi (IntOp.andi (BitVec.ofBool p) (BitVec.ofBool q)) (BitVec.ofBool r)) (BitVec.ofBool s))
      = if p ∧ q ∧ r ∧ s then (1 : EReal) else 0 := by
    intro p q r s
    show (((IntOp.andi (IntOp.andi (IntOp.andi (BitVec.ofBool p) (BitVec.ofBool q)) (BitVec.ofBool r)) (BitVec.ofBool s)).toNat : ℝ) : EReal) = _
    cases p <;> cases q <;> cases r <;> cases s <;> simp [IntOp.andi]
  rw [h]
  simp only [decide_eq_true_eq]

/-- Clipping, read at a joint. -/
theorem clipI_apply (ix : FVec Ideal S128x1x21 .f32) (b : Fin 128) (j : Fin 21) :
    clipI ix (ix3 b 0 j) = BitVec.ofNat 32 (clipN (ix (ix3 b 0 j))) := by
  pointwise [clipI]
  rw [sitofp_31, sitofp_0, fptosi_eq, ← clipN_cast]
  rfl

/-- The pixel number, read at a joint. -/
theorem linI_apply (ix iy : FVec Ideal S128x1x21 .f32) (b : Fin 128) (j : Fin 21) :
    linI ix iy (ix2 b j) = BitVec.ofNat 32 (clipN (iy (ix3 b 0 j)) * 32 + clipN (ix (ix3 b 0 j))) := by
  pointwise [linI]
  rw [clipI_apply, clipI_apply]
  show BitVec.ofNat 32 _ * BitVec.ofNat 32 32 + BitVec.ofNat 32 _ = _
  rw [← BitVec.ofNat_mul, ← BitVec.ofNat_add]

/-- A pixel number below 1024 is not wrapped. -/
theorem wrapI_apply (l : IVec S128x21 32) (b : Fin 128) (j : Fin 21) (n : ℕ) (hn : n < 1024) (h : l (ix2 b j) = BitVec.ofNat 32 n) :
    wrapI l (ix3 b j 0) = BitVec.ofNat 32 n := by
  pointwise [wrapI]
  rw [h]
  have : IntOp.cmpi .slt (BitVec.ofNat 32 n) 0#32 = 0#1 := by
    have h2 : (BitVec.ofNat 32 n).slt 0#32 = false := by
      rw [BitVec.slt_eq_decide, decide_eq_false_iff_not, BitVec.toInt_ofNat']
      simp [Int.bmod_def]; omega
    simp [IntOp.cmpi, h2]
  rw [this]
  rfl

/-- The gather's dimension numbers. -/
abbrev gd := gather_S128x256x1024_S128x21x1_S128x256x21_1_2_0_0_2_2_12561

/-- The gather, read at a joint whose pixel number is below 1024. -/
theorem gather_apply (y : FVec Ideal S128x256x1024 .f32) (idx : IVec S128x21x1 32) (b : Fin 128) (ch : Fin 256) (j : Fin 21)
    (n : ℕ) (hn : n < 1024) (h : idx (ix3 b j 0) = BitVec.ofNat 32 n) :
    Host.gather gd y idx (ix3 b ch j) = y (ix3 b ch ⟨n, hn⟩) := by
  unfold Host.gather
  congr 1
  funext a
  refine Fin.ext ?_
  show gd.start (ix3 b ch j) idx a
      + gd.batchCoord (ix3 b ch j) a
      + gd.offCoord (ix3 b ch j) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gd.operandBatchingDims from List.mem_singleton.mpr rfl)]
    rfl
  · rw [GatherDims.batchCoord_eq_zero _ _ _ (fun h => absurd (List.mem_singleton.mp h) (by decide))]
    unfold GatherDims.start GatherDims.offCoord
    rw [dif_neg (show ¬ (1 : Fin 3) ∈ gd.startIndexMap from fun h => absurd (List.mem_singleton.mp h) (by decide)),
      dif_pos (show (1 : Fin 3) ∈ gd.sKept from (GatherDims.mem_sKept _ _).mpr ⟨fun h => absurd (List.mem_singleton.mp h) (by decide), fun h => absurd (List.mem_singleton.mp h) (by decide)⟩)]
    simp only [Nat.zero_add, Nat.add_zero]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gd.startIndexMap from List.mem_singleton.mpr rfl)]
    have hsi : gd.siIdx (ix3 b ch j)
        ⟨List.idxOf (2 : Fin 3) gd.startIndexMap,
        List.idxOf_lt_length_iff.2 (List.mem_singleton.mpr rfl)⟩ = ix3 b j 0 := by
      funext c; refine Fin.ext ?_
      match c with
      | ⟨0, _⟩ => rfl
      | ⟨1, _⟩ => rfl
      | ⟨2, _⟩ => rfl
    rw [hsi, h]
    have h4 : (BitVec.ofNat 32 n).toInt.toNat = n := by
      rw [BitVec.toInt_ofNat']; simp [Int.bmod_def]; omega
    show min (BitVec.ofNat 32 n).toInt.toNat 1023 = n
    omega

/-- The picked value: the image at the clipped line and column. -/
theorem pick_apply (x0 : FVec Ideal S128x256x32x32 .f32) (ix iy : FVec Ideal S128x1x21 .f32) (b : Fin 128) (ch : Fin 256) (j : Fin 21) :
    pick x0 (linI ix iy) (ix3 b ch j) = x0 (ix4 b ch (clipF (iy (ix3 b 0 j))) (clipF (ix (ix3 b 0 j)))) := by
  have h0 := clipN_lt (iy (ix3 b 0 j))
  have h1 := clipN_lt (ix (ix3 b 0 j))
  have hn : clipN (iy (ix3 b 0 j)) * 32 + clipN (ix (ix3 b 0 j)) < 1024 := by omega
  unfold pick
  rw [gather_apply _ _ b ch j _ hn (wrapI_apply _ b j _ hn (linI_apply ix iy b j))]
  pointwise
  congr 1
  congr 1 <;> refine Fin.ext ?_ <;> simp <;> omega

/-- A tap, read at a joint of an image whose channel is finite. -/
theorem tap_apply (x0 : FVec Ideal S128x256x32x32 .f32) (ix iy w : FVec Ideal S128x1x21 .f32) (b : Fin 128) (ch : Fin 256) (j : Fin 21)
    (g : Fin 32 → Fin 32 → ℝ) (hg : ∀ r q, x0 (ix4 b ch r q) = ((g r q : ℝ) : EReal)) :
    tap x0 ix iy w (ix4 b ch 0 j) = tapV g (ix (ix3 b 0 j)) (iy (ix3 b 0 j)) (w (ix3 b 0 j)) := by
  pointwise [tap]
  rw [pick_apply, inside_apply, hg]
  rfl

/-- Halving by a division is halving by a product. -/
theorem div_two (x : EReal) : Ideal.div x ((2 : ℝ) : EReal) = x * ((1 / 2 : ℝ) : EReal) := Ideal.div_coe (by norm_num) x

/-- The horizontal pixel position of a joint. -/
theorem v10_apply (x3 : (⟨S128x21x2, .f32⟩ : BufTy).Contents (Elt Ideal)) (b : Fin 128) (j : Fin 21) :
    val_main_v10 (F := Ideal) x3 (ix3 b 0 j) = px (x3 (ix3 b j 0)) := by
  unfold val_main_v10 val_main_v8 val_main_v6 val_main_v4 val_main_v2 val_main_v1 val_main_v0 val_main_v3 val_main_v5 val_main_v7 val_main_v9
  pointwise [val_main_cst, val_main_cst_0, val_main_cst_1, val_main_cst_2]
  rw [bits_32, bits_2]
  exact div_two _

/-- The vertical pixel position of a joint. -/
theorem v20_apply (x3 : (⟨S128x21x2, .f32⟩ : BufTy).Contents (Elt Ideal)) (b : Fin 128) (j : Fin 21) :
    val_main_v20 (F := Ideal) x3 (ix3 b 0 j) = px (x3 (ix3 b j 1)) := by
  unfold val_main_v20 val_main_v18 val_main_v16 val_main_v14 val_main_v12 val_main_v11 val_main_v0 val_main_v13 val_main_v15 val_main_v17 val_main_v19
  pointwise [val_main_cst_3, val_main_cst_4, val_main_cst_5, val_main_cst_6]
  rw [bits_32, bits_2]
  exact div_two _

/-- The plain program's features of a joint: each pixel of the image times its bilinear weights. -/
theorem v174_apply (x0 : (⟨S128x256x32x32, .f32⟩ : BufTy).Contents (Elt Ideal)) (x3 : (⟨S128x21x2, .f32⟩ : BufTy).Contents (Elt Ideal))
    (b : Fin 128) (ch : Fin 256) (j : Fin 21)
    (g : Fin 32 → Fin 32 → ℝ) (hg : ∀ r q, x0 (ix4 b ch r q) = ((g r q : ℝ) : EReal)) :
    val_main_v174 (F := Ideal) x0 x3 (ix3 b ch j)
      = ((∑ r : Fin 32, ∑ q : Fin 32, g r q * (wt (px (x3 (ix3 b j 1))) r.val * wt (px (x3 (ix3 b j 0))) q.val) : ℝ) : EReal) := by
  rw [← taps_eq]
  unfold val_main_v174 val_main_v173 val_main_v139 val_main_v105
  rw [v71_eq, v104_eq, v138_eq, v172_eq]
  pointwise
  simp only [tap_apply _ _ _ _ b ch j g hg]
  unfold val_main_v29 val_main_v32 val_main_v35 val_main_v38 val_main_v27 val_main_v28 val_main_v30 val_main_v31 val_main_v33 val_main_v34 val_main_v36 val_main_v37 val_main_v24 val_main_v26 val_main_v23 val_main_v25 val_main_v21 val_main_v22
  pointwise [val_main_cst_7, val_main_cst_8]
  rw [v10_apply, v20_apply]

end Cert.Joint
end
-- ==== Proof.Head.lean ====
/-
  The plain program's two layers and batch normalisation over a hand's features, read at an index.
-/
module

public import proofs.«01_k».proof.Proof.Taps

@[expose] public section

set_option maxRecDepth 16384

noncomputable section

namespace Cert.Joint

open Idealize.ShloMosaic Idealize.SL.Sem Cert.ReferenceIdeal Cert.ReferenceIdeal.Gen Cert.ReferenceIdeal.Read Cert.Feat

/-- A sum over images and joints, read at a channel. -/
theorem red_apply (x : FVec Ideal S128x128x21 .f32) (i : EReal) (c : Fin 128) :
    Ideal.hostReduceAdd reducesTo_S128x128x21_S128_d0_2 x i (ix1 c) = i + ∑ b : Fin 128, ∑ j : Fin 21, x (ix3 b c j) := by
  unfold Ideal.hostReduceAdd
  congr 1
  rw [Finset.sum_filter, sum_idx3]
  refine Finset.sum_congr rfl fun b _ => ?_
  have hd : ∀ (c' : Fin 128) (j : Fin 21), (reducesTo_S128x128x21_S128_d0_2.drop (ix3 b c' j) = ix1 c) ↔ c' = c := by
    intro c' j
    constructor
    · intro h
      have := congrFun h 0
      exact Fin.ext (congrArg Fin.val this)
    · rintro rfl
      funext a
      obtain rfl : a = 0 := Subsingleton.elim _ _
      rfl
  simp only [hd]
  rw [Finset.sum_eq_single c]
  · simp
  · intro c' _ hc; simp [hc]
  · intro h; exact absurd (Finset.mem_univ _) h

section
variable (x0 : (⟨S128x256x32x32, .f32⟩ : BufTy).Contents (Elt Ideal)) (x3 : (⟨S128x21x2, .f32⟩ : BufTy).Contents (Elt Ideal))
    (x8 : (⟨S128x256, .f32⟩ : BufTy).Contents (Elt Ideal)) (x9 x10 x11 x13 : (⟨S128, .f32⟩ : BufTy).Contents (Elt Ideal))
    (x12 : (⟨S128x128, .f32⟩ : BufTy).Contents (Elt Ideal))
    (g : Fin 128 → Fin 256 → Fin 32 → Fin 32 → ℝ) (hg : ∀ b ch r q, x0 (ix4 b ch r q) = ((g b ch r q : ℝ) : EReal))
    (w : Fin 128 → Fin 256 → ℝ) (hw : ∀ c ch, x8 (ix2 c ch) = ((w c ch : ℝ) : EReal))
    (b1 : Fin 128 → ℝ) (hb1 : ∀ c, x9 (ix1 c) = ((b1 c : ℝ) : EReal))

/-- The first layer of a hand, from its joints' coordinates and its weights. -/
abbrev hid : Fin 128 → Fin 128 → Fin 21 → ℝ := hidR (featR g fun b j k => x3 (ix3 b j k)) w b1

include hg hw hb1

/-- The first layer, read at an index. -/
theorem v179_apply (b c : Fin 128) (j : Fin 21) :
    val_main_v179 (F := Ideal) x0 x3 x8 x9 (ix3 b c j) = ((hid x3 g w b1 b c j : ℝ) : EReal) := by
  unfold val_main_v179 val_main_v178 val_main_v177 val_main_v176 val_main_v175
  pointwise
  simp only [fun ch => v174_apply x0 x3 b ch j (g b ch) (hg b ch), hw, hb1, ← EReal.coe_mul, coe_sum, ← EReal.coe_add]
  rfl

/-- A sum of the first layer over images and joints, divided by their number. -/
theorem mean_apply (c : Fin 128) :
    Ideal.div (Ideal.hostReduceAdd reducesTo_S128x128x21_S128_d0_2 (val_main_v179 (F := Ideal) x0 x3 x8 x9) 0 (ix1 c)) ((2688 : ℝ) : EReal)
      = ((meanR (hid x3 g w b1) c : ℝ) : EReal) := by
  rw [red_apply, zero_add, Ideal.div_coe (by norm_num)]
  simp only [v179_apply x0 x3 x8 x9 g hg w hw b1 hb1, coe_sum, ← EReal.coe_mul]
  rfl

/-- The mean, read at a channel. -/
theorem v183_apply (c : Fin 128) :
    val_main_v183 (F := Ideal) x0 x3 x8 x9 (ix3 0 c 0) = ((meanR (hid x3 g w b1) c : ℝ) : EReal) := by
  unfold val_main_v183 val_main_v182 val_main_v181 val_main_v180
  pointwise [val_main_cst_52, val_main_cst_53]
  rw [bits_2688]
  exact mean_apply x0 x3 x8 x9 g hg w hw b1 hb1 c

/-- The first layer less its mean, read at an index. -/
theorem call8_v5_apply (b c : Fin 128) (j : Fin 21) :
    val_main_call8_v5 (F := Ideal) x0 x3 x8 x9 (ix3 b c j) = ((hid x3 g w b1 b c j - meanR (hid x3 g w b1) c : ℝ) : EReal) := by
  unfold val_main_call8_v5 val_main_call8_v4 val_main_call8_v3 val_main_call8_v2 val_main_call8_v1 val_main_call8_v0
  pointwise [val_main_call8_cst_0, val_main_call8_cst]
  rw [bits_2688, v179_apply x0 x3 x8 x9 g hg w hw b1 hb1, mean_apply x0 x3 x8 x9 g hg w hw b1 hb1, ← EReal.coe_sub]

/-- The variance, read at a channel. -/
theorem v184_apply (c : Fin 128) :
    val_main_v184 (F := Ideal) x0 x3 x8 x9 (ix3 0 c 0) = ((varR (hid x3 g w b1) c : ℝ) : EReal) := by
  unfold val_main_v184 val_main_call8_v13 val_main_call8_v12 val_main_call8_call0_v1 val_main_call8_call0_v0 val_main_call8_v11 val_main_call8_v10 val_main_call8_v9 val_main_call8_v8 val_main_call8_v7 val_main_call8_v6
  pointwise [val_main_call8_cst_1, val_main_call8_cst_2, val_main_call8_cst_3, val_main_call8_cst_4, val_main_c_54]
  rw [bits_2688, sitofp_0, sub_zero, if_pos (by norm_num), red_apply, zero_add, Ideal.div_coe (by norm_num)]
  pointwise
  simp only [call8_v5_apply x0 x3 x8 x9 g hg w hw b1 hb1, coe_sum, ← EReal.coe_mul]
  rw [var_centred]

/-- The plain program's result for a hand, read at an index. -/
theorem v206_apply (b o : Fin 128) (j : Fin 21) :
    val_main_v206 (F := Ideal) x0 x3 x8 x9 x10 x11 x12 x13 (ix3 b j o)
      = outV (hid x3 g w b1) (fun c => x10 (ix1 c)) (fun c => x11 (ix1 c)) (fun o k => x12 (ix2 o k)) (fun o => x13 (ix1 o)) b j o := by
  unfold val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187 val_main_v186 val_main_v185
  pointwise [val_main_cst_55, val_main_call9_v0, val_main_call9_cst]
  unfold outV actV
  simp only [v179_apply x0 x3 x8 x9 g hg w hw b1 hb1, v183_apply x0 x3 x8 x9 g hg w hw b1 hb1, v184_apply x0 x3 x8 x9 g hg w hw b1 hb1,
    bits_eps, ← EReal.coe_sub, div_std]

end

end Cert.Joint
end
-- ==== Proof.Pre.lean ====
/-
  What the precondition says: the image, the first layer's weights and its biases are finite numbers, and no
  joint's height coordinate is negative.
-/
module

public import proofs.«01_k».proof.Proof.Gen.Pre_in_range
public import proofs.«01_k».proof.Proof.Consts
public import Idealize.ShloMosaic.Lib.ReduceAll
public import Idealize.ShloMosaic.Lib.Pointwise

@[expose] public section

set_option maxRecDepth 16384

noncomputable section

namespace Cert.Range

open Idealize.ShloMosaic Cert.Pre_in_range Cert.Pre_in_range.Gen Cert.Feat

/-- An extended real whose absolute value is below infinity is a real number. -/
theorem real_of_abs_lt (x : EReal) (h : max x (-x) < ⊤) : x = ((x.toReal : ℝ) : EReal) := by
  refine (EReal.coe_toReal ?_ ?_).symm
  · rintro rfl
    simp at h
  · rintro rfl
    simp at h

/-- An array every element of which is below infinity in absolute value holds real numbers. -/
theorem real_of_all {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf x) (broadcastInDim s ![] hb (constant S_ .f32 0x7F800000#32))) (constantI S_ 1 1#1) hr h_S_ j = 1#1)
    (i : s.Idx) : (x i : EReal) = (((x i : EReal).toReal : ℝ) : EReal) := by
  haveI : Subsingleton S_.Idx := ⟨fun a b => funext fun k => k.elim0⟩
  have k : Ideal.cmp .olt (max (x i : EReal) (-(x i : EReal))) (Ideal.ofBits .f32 0x7F800000#32) = 1#1 :=
    Host.reduce_andi_all _ _ hr h_S_ j e i
  rw [bits_top] at k
  refine real_of_abs_lt _ ?_
  by_contra hn
  simp [Ideal.cmp, hn] at k

/-- A hand's positions, when none of the heights is below zero. -/
theorem height_of_all (x : FVec Ideal S128x21x2 .f32) (j : S_.Idx)
    (e : Host.reduce IntOp.andi (cmpf .oge (extractStridedSlice S128x21x1 ![0, 0, 1] x slices_S128x21x2_S128x21x1_0_0_1)
      (broadcastInDim S128x21x1 ![] bcast_S_S128x21x1 (constant S_ .f32 0x00000000#32))) (constantI S_ 1 1#1) reducesTo_S128x21x1_S_d0_1_2 h_S_ j = 1#1)
    (b : Fin 128) (n : Fin 21) : (0 : EReal) ≤ (fun i => x i : S128x21x2.Idx → EReal) (ix3 b n 1) := by
  haveI : Subsingleton S_.Idx := ⟨fun a b => funext fun k => k.elim0⟩
  have k : Ideal.cmp .oge (extractStridedSlice S128x21x1 ![0, 0, 1] x slices_S128x21x2_S128x21x1_0_0_1 (ix3 b n 0) : EReal) (Ideal.ofBits .f32 0x00000000#32) = 1#1 :=
    Host.reduce_andi_all _ _ reducesTo_S128x21x1_S_d0_1_2 h_S_ j e (ix3 b n 0)
  have hx : extractStridedSlice S128x21x1 ![0, 0, 1] x slices_S128x21x2_S128x21x1_0_0_1 (ix3 b n 0) = x (ix3 b n 1) := by pointwise
  rw [hx, show Ideal.ofBits .f32 0x00000000#32 = (0 : EReal) from Ideal.ofBits_zero_f32] at k
  by_contra hn
  have hn' : ¬ (0 : EReal) ≤ (x (ix3 b n 1) : EReal) := hn
  simp [Ideal.cmp, hn'] at k

variable (x0 : FVec Ideal S128x256x32x32 .f32) (x1 x2 : FVec Ideal S128x21x3 .f32) (x3 x4 : FVec Ideal S128x21x2 .f32)
  (x5 x6 : FVec Ideal S128x64 .f32) (x7 : FVec Ideal S128x1x3 .f32) (x8 : FVec Ideal S128x256 .f32) (x9 x10 x11 : FVec Ideal S128 .f32)
  (x12 : FVec Ideal S128x128 .f32) (x13 : FVec Ideal S128 .f32) (x14 : FVec Ideal S128x256 .f32) (x15 x16 x17 : FVec Ideal S128 .f32)
  (x18 : FVec Ideal S128x128 .f32) (x19 : FVec Ideal S128 .f32)

/-- The precondition, taken apart. -/
theorem of_fn (h : fn (F := Ideal) x0 x1 x2 x3 x4 x5 x6 x7 x8 x9 x10 x11 x12 x13 x14 x15 x16 x17 x18 x19 = fun _ => 1#1) :
    (∀ i, (x0 i : EReal) = (((x0 i : EReal).toReal : ℝ) : EReal)) ∧ (∀ i, (x8 i : EReal) = (((x8 i : EReal).toReal : ℝ) : EReal))
      ∧ (∀ i, (x9 i : EReal) = (((x9 i : EReal).toReal : ℝ) : EReal)) ∧ (∀ i, (x14 i : EReal) = (((x14 i : EReal).toReal : ℝ) : EReal))
      ∧ (∀ i, (x15 i : EReal) = (((x15 i : EReal).toReal : ℝ) : EReal))
      ∧ (∀ (b : Fin 128) (n : Fin 21), (0 : EReal) ≤ (fun i => x3 i : S128x21x2.Idx → EReal) (ix3 b n 1))
      ∧ ∀ (b : Fin 128) (n : Fin 21), (0 : EReal) ≤ (fun i => x4 i : S128x21x2.Idx → EReal) (ix3 b n 1) := by
  have e := congrFun h fun k => k.elim0
  unfold fn fn_part1 at e
  obtain ⟨e, e4⟩ := IntOp.andi_eq_one.1 e
  obtain ⟨e, e3⟩ := IntOp.andi_eq_one.1 e
  obtain ⟨e, e15⟩ := IntOp.andi_eq_one.1 e
  obtain ⟨e, e14⟩ := IntOp.andi_eq_one.1 e
  obtain ⟨e, e9⟩ := IntOp.andi_eq_one.1 e
  obtain ⟨e0, e8⟩ := IntOp.andi_eq_one.1 e
  exact ⟨real_of_all x0 _ _ _ e0, real_of_all x8 _ _ _ e8, real_of_all x9 _ _ _ e9, real_of_all x14 _ _ _ e14, real_of_all x15 _ _ _ e15,
    height_of_all x3 _ e3, height_of_all x4 _ e4⟩

end Cert.Range

end
-- ==== Proof.Claims.lean ====
/-
  The claims one by one: both programs run and keep their arguments, the kernel at exact arithmetic is the kernel
  with its one named constant, and its two results are the plain program's.
-/
module

public import proofs.«01_k».proof.Defs
public import proofs.«01_k».proof.Proof.Gen.Kernel.Frame
public import proofs.«01_k».proof.Proof.Gen.ReferenceIdeal.Run
public import proofs.«01_k».proof.Proof.Run
public import proofs.«01_k».proof.Proof.Hands
public import proofs.«01_k».proof.Proof.Head
public import proofs.«01_k».proof.Proof.Pre
public import Idealize.ShloMosaic.Lib.Claim
public import Idealize.ShloMosaic.Lib.Quiescent

@[expose] public section

set_option maxRecDepth 16384

noncomputable section

namespace Cert.Feat

open Idealize.ShloMosaic Idealize.SL.Sem Cert.KernelIdeal Cert.KernelIdeal.Gen Cert.Joint

/-- The plain program runs, keeps its arguments, and uses no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

variable (m : (ℓ : Loc nD τ sig) → Buf (Elt Ideal) ℓ) (ρ : Dev nD → PrngReg) (c : Dev nD)

/-- Under the precondition the kernel's first result is the plain program's, of the same arguments. -/
theorem left (hpre : Cert.Pre_KernelIdeal_in_range m) :
    Cert.ReferenceIdeal.Read.val_main_v206 (F := Ideal) (m ((c.tc : Thread nD τ).loc main_arg0)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      = (W9 m ρ c (Proc.devRef .tc main_v39) : Vec Ideal S128x21x128 .f32) := by
  obtain ⟨h0, h8, h9, h14, h15, h3, h4⟩ := Cert.Range.of_fn _ _ _ _ _ _ _ _ _ _ _ _ _ _ _ _ _ _ _ _ (hpre c)
  funext i
  obtain ⟨b, j, o, rfl⟩ : ∃ (b : Fin 128) (j : Fin 21) (o : Fin 128), i = (ix3 b j o : S128x21x128.Idx) :=
    ⟨i 0, i 1, i 2, funext fun a => by fin_cases a <;> rfl⟩
  exact (v206_apply (m ((c.tc : Thread nD τ).loc main_arg0)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg12))
      (fun b ch r q => EReal.toReal ((m ((c.tc : Thread nD τ).loc main_arg0)) (ix4 b ch r q))) (fun b ch r q => h0 _)
      (fun i ch => EReal.toReal ((m ((c.tc : Thread nD τ).loc main_arg8)) (ix2 i ch))) (fun i ch => h8 _)
      (fun i => EReal.toReal ((m ((c.tc : Thread nD τ).loc main_arg9)) (ix1 i))) (fun i => h9 _) b o j).trans
    (W9_left m ρ c _ (fun b ch r q => h0 _) _ _ (fun i ch => h8 _) (fun i => h9 _) h3 b j o).symm

/-- Under the precondition the kernel's second result is the plain program's, of the same arguments. -/
theorem right (hpre : Cert.Pre_KernelIdeal_in_range m) :
    Cert.ReferenceIdeal.Read.val_main_v413 (F := Ideal) (m ((c.tc : Thread nD τ).loc main_arg0)) (m ((c.tc : Thread nD τ).loc main_arg4)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      = (W9 m ρ c (Proc.devRef .tc main_v41) : Vec Ideal S128x21x128 .f32) := by
  obtain ⟨h0, h8, h9, h14, h15, h3, h4⟩ := Cert.Range.of_fn _ _ _ _ _ _ _ _ _ _ _ _ _ _ _ _ _ _ _ _ (hpre c)
  rw [hand2]
  funext i
  obtain ⟨b, j, o, rfl⟩ : ∃ (b : Fin 128) (j : Fin 21) (o : Fin 128), i = (ix3 b j o : S128x21x128.Idx) :=
    ⟨i 0, i 1, i 2, funext fun a => by fin_cases a <;> rfl⟩
  exact (v206_apply (m ((c.tc : Thread nD τ).loc main_arg0)) (m ((c.tc : Thread nD τ).loc main_arg4)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg19)) (m ((c.tc : Thread nD τ).loc main_arg18))
      (fun b ch r q => EReal.toReal ((m ((c.tc : Thread nD τ).loc main_arg0)) (ix4 b ch r q))) (fun b ch r q => h0 _)
      (fun i ch => EReal.toReal ((m ((c.tc : Thread nD τ).loc main_arg14)) (ix2 i ch))) (fun i ch => h14 _)
      (fun i => EReal.toReal ((m ((c.tc : Thread nD τ).loc main_arg15)) (ix1 i))) (fun i => h15 _) b o j).trans
    (W9_right m ρ c _ (fun b ch r q => h0 _) _ _ (fun i ch => h14 _) (fun i => h15 _) h4 b j o).symm

/-- A function of eight arguments takes equal arguments to equal values. -/
theorem congr8 {A B C D E G H I J : Type} (f : A → B → C → D → E → G → H → I → J) {a a' : A} {b b' : B} {c c' : C} {d d' : D} {e e' : E}
    {g g' : G} {h h' : H} {i i' : I} (ea : a = a') (eb : b = b') (ec : c = c') (ed : d = d') (ee : e = e') (eg : g = g') (eh : h = h') (ei : i = i') :
    f a b c d e g h i = f a' b' c' d' e' g' h' i' := by
  subst ea eb ec ed ee eg eh ei
  rfl

/-- The kernel's two results are the plain program's: from memories that agree on the arguments both programs run and
    end with equal results and the arguments unchanged. -/
theorem algebraic : Cert.algebraic_KernelIdeal_ReferenceIdeal_pre_in_range := by
  intro m ρ m' ρ' hpre hagree
  refine ⟨fun c => W9 m ρ c (Proc.devRef .tc main_v39), fun c => W9 m ρ c (Proc.devRef .tc main_v41),
    θ_run_mono (run m ρ) ?_, θ_run_mono (Cert.ReferenceIdeal.Value.run (F := Ideal) m' ρ') ?_⟩
  · intro r h c
    exact ⟨h c _ (mem_uc main_v39 (by decide)),
      h c _ (mem_uc main_v41 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c),
      (h c _ (mem_uc main_arg13 (by decide))).trans (W9_main_arg13 m ρ c),
      (h c _ (mem_uc main_arg14 (by decide))).trans (W9_main_arg14 m ρ c),
      (h c _ (mem_uc main_arg15 (by decide))).trans (W9_main_arg15 m ρ c),
      (h c _ (mem_uc main_arg16 (by decide))).trans (W9_main_arg16 m ρ c),
      (h c _ (mem_uc main_arg17 (by decide))).trans (W9_main_arg17 m ρ c),
      (h c _ (mem_uc main_arg18 (by decide))).trans (W9_main_arg18 m ρ c),
      (h c _ (mem_uc main_arg19 (by decide))).trans (W9_main_arg19 m ρ c)⟩
  · intro r h c
    obtain ⟨h1, h2, h3⟩ := h c
    obtain ⟨e0, e1, e2, e3, e4, e5, e6, e7, e8, e9, e10, e11, e12, e13, e14, e15, e16, e17, e18, e19⟩ := hagree c
    refine ⟨h1.trans ?_, h2.trans ?_, h3⟩
    · refine (Cert.ReferenceIdeal.Read.val_main_v206_eq (F := Ideal) (StableHlo.launchContents m' c)).trans (Eq.trans ?_ (left m ρ c hpre))
      exact congr8 (Cert.ReferenceIdeal.Read.val_main_v206 (F := Ideal)) e0 e3 e8 e9 e10 e11 e12 e13
    · refine (Cert.ReferenceIdeal.Read.val_main_v413_eq (F := Ideal) (StableHlo.launchContents m' c)).trans (Eq.trans ?_ (right m ρ c hpre))
      exact congr8 (Cert.ReferenceIdeal.Read.val_main_v413 (F := Ideal)) e0 e4 e14 e15 e16 e17 e18 e19

end Cert.Feat

end
-- ==== Proof.lean ====
/-
  The proof of `Cert.Claim`: the parts of Proof/Claims.lean, in the order the claim states them.
-/
module

public import proofs.«01_k».proof.Proof.Claims

@[expose] public section

noncomputable section

namespace Cert.Proof

open Idealize.ShloMosaic Idealize.SL.Sem

/-- Everything the certificate claims: both programs run, keep their arguments and leave every semaphore at zero; the
    kernel at exact arithmetic is the kernel with `inv_n` named; and its two results are the plain program's. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    Cert.Feat.frame_reference, fun m ρ _ => Cert.Feat.frame_reference m ρ trivial,
    IdealRules.named_const.statement Cert.KernelIdeal.κ "inv_n" .f32 0x39C30C31#32 ((1 / 2688 : ℝ) : EReal) rfl, Cert.Feat.algebraic⟩

end Cert.Proof

end
